-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S8x256x4096 : Shape := ⟨3, ![8, 256, 4096]⟩
abbrev S2x64x4096 : Shape := ⟨3, ![2, 64, 4096]⟩
abbrev S2x512x512 : Shape := ⟨3, ![2, 512, 512]⟩
abbrev S2x256x512 : Shape := ⟨3, ![2, 256, 512]⟩
abbrev S4 : Shape := ⟨1, ![4]⟩
abbrev S8 : Shape := ⟨1, ![8]⟩
abbrev S2 : Shape := ⟨1, ![2]⟩
abbrev S8x2 : Shape := ⟨2, ![8, 2]⟩
abbrev S_ : Shape := ⟨0, ![]⟩
abbrev S1x64x4096 : Shape := ⟨3, ![1, 64, 4096]⟩
abbrev S64x4096 : Shape := ⟨2, ![64, 4096]⟩
abbrev S1x1 : Shape := ⟨2, ![1, 1]⟩
abbrev S1x128x4096 : Shape := ⟨3, ![1, 128, 4096]⟩
abbrev S128x4096 : Shape := ⟨2, ![128, 4096]⟩
abbrev S1x512x512 : Shape := ⟨3, ![1, 512, 512]⟩
abbrev S512x512 : Shape := ⟨2, ![512, 512]⟩
abbrev S256x512 : Shape := ⟨2, ![256, 512]⟩
abbrev S1x256x512 : Shape := ⟨3, ![1, 256, 512]⟩
abbrev S1x256x4096 : Shape := ⟨3, ![1, 256, 4096]⟩
abbrev S128x512 : Shape := ⟨2, ![128, 512]⟩
abbrev S1x128x512 : Shape := ⟨3, ![1, 128, 512]⟩

abbrev nBuf : Space → Nat
  | .hbm => 5
  | .vmem => 7
  | .smem => 2
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e4m3⟩
  | .local _ .vmem, ⟨1, _⟩ => ⟨S4096x512, .fp8e4m3⟩
  | .local _ .vmem, ⟨2, _⟩ => ⟨S8x256x4096, .fp8e4m3⟩
  | .local _ .vmem, ⟨3, _⟩ => ⟨S8x256x4096, .fp8e4m3⟩
  | .local _ .vmem, ⟨4, _⟩ => ⟨S2x64x4096, .f32⟩
  | .local _ .vmem, ⟨5, _⟩ => ⟨S2x512x512, .f32⟩
  | .local _ .vmem, ⟨6, _⟩ => ⟨S2x256x512, .f32⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v36 : BitVec 32 := Scalar.muli v13 c1_i32_25
  let v37 : BitVec 32 := Scalar.addi c0_i32_26 v36
  v37.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v38 : BitVec 32 := Scalar.muli v24 c1_i32_28
  let v39 : BitVec 32 := Scalar.addi c0_i32_29 v38
  v39.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_65 : BitVec 32 := 1#32
  let v75 : BitVec 32 := Scalar.muli v24 c1_i32_65
  let v76 : BitVec 32 := Scalar.addi c0_i32_66 v75
  v76.toNat
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_76 : BitVec 32 := 1#32
  let v84 : BitVec 32 := Scalar.muli v13 c1_i32_76
  let v85 : BitVec 32 := Scalar.addi c0_i32_77 v84
  v85.toNat
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_107 : BitVec 32 := 1#32
  let v115 : BitVec 32 := Scalar.muli v24 c1_i32_107
  let v116 : BitVec 32 := Scalar.addi c0_i32_108 v115
  v116.toNat
def k0_dev6 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_118 : BitVec 32 := 1#32
  let v124 : BitVec 32 := Scalar.muli v13 c1_i32_118
  let v125 : BitVec 32 := Scalar.addi c0_i32_119 v124
  v125.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v261 : BitVec 32 := Scalar.muli v2 c256_i32
  let c0_i32_252 : BitVec 32 := 0#32
  ![v261.toNat, 0]
def k0_dev7 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_272 : BitVec 32 := 1#32
  let v284 : BitVec 32 := Scalar.muli v24 c1_i32_272
  let v285 : BitVec 32 := Scalar.addi c0_i32_273 v284
  v285.toNat
def k0_dev8 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_297 : BitVec 32 := 1#32
  let v302 : BitVec 32 := Scalar.muli v13 c1_i32_297
  let v303 : BitVec 32 := Scalar.addi c0_i32_298 v302
  v303.toNat
def k0_dev9 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_322 : BitVec 32 := 1#32
  let v320 : BitVec 32 := Scalar.muli v24 c1_i32_322
  let v321 : BitVec 32 := Scalar.addi c0_i32_323 v320
  v321.toNat
def k0_dev10 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_347 : BitVec 32 := 1#32
  let v338 : BitVec 32 := Scalar.muli v13 c1_i32_347
  let v339 : BitVec 32 := Scalar.addi c0_i32_348 v338
  v339.toNat
def k0_off2 (d0 : Dev nD) (c0_i32_355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v349 : BitVec 32 := Scalar.subi v2 c0_i32_355
  let c1_i32_356 : BitVec 32 := 1#32
  let v350 : BitVec 32 := Scalar.subi v349 c1_i32_356
  let c16_i32_357 : BitVec 32 := 16#32
  let c0_i32_358 : BitVec 32 := 0#32
  let v351 : BitVec 1 := Scalar.cmpi .eq c16_i32_357 c0_i32_358
  let c1_i32_359 : BitVec 32 := 1#32
  let v352 : BitVec 32 := Scalar.select v351 c1_i32_359 c16_i32_357
  let v353 : BitVec 32 := Scalar.remsi v350 v352
  let c0_i32_361 : BitVec 32 := 0#32
  let v355 : BitVec 1 := Scalar.cmpi .slt v353 c0_i32_361
  let c0_i32_362 : BitVec 32 := 0#32
  let v356 : BitVec 1 := Scalar.cmpi .slt v352 c0_i32_362
  let v357 : BitVec 1 := Scalar.xori v355 v356
  let c0_i32_360 : BitVec 32 := 0#32
  let v354 : BitVec 1 := Scalar.cmpi .ne v353 c0_i32_360
  let v358 : BitVec 1 := Scalar.andi v357 v354
  let v359 : BitVec 32 := Scalar.addi v353 v352
  let v360 : BitVec 32 := Scalar.select v358 v359 v353
  let c256_i32_363 : BitVec 32 := 256#32
  let v361 : BitVec 32 := Scalar.muli v360 c256_i32_363
  let c0_i32_376 : BitVec 32 := 0#32
  ![v361.toNat, 0]
def k0_off3 (d0 : Dev nD) (c0_i32_379 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v378 : BitVec 32 := Scalar.addi v2 c0_i32_379
  let c1_i32_380 : BitVec 32 := 1#32
  let v379 : BitVec 32 := Scalar.addi v378 c1_i32_380
  let c16_i32_381 : BitVec 32 := 16#32
  let c0_i32_382 : BitVec 32 := 0#32
  let v380 : BitVec 1 := Scalar.cmpi .eq c16_i32_381 c0_i32_382
  let c1_i32_383 : BitVec 32 := 1#32
  let v381 : BitVec 32 := Scalar.select v380 c1_i32_383 c16_i32_381
  let v382 : BitVec 32 := Scalar.remsi v379 v381
  let c0_i32_385 : BitVec 32 := 0#32
  let v384 : BitVec 1 := Scalar.cmpi .slt v382 c0_i32_385
  let c0_i32_386 : BitVec 32 := 0#32
  let v385 : BitVec 1 := Scalar.cmpi .slt v381 c0_i32_386
  let v386 : BitVec 1 := Scalar.xori v384 v385
  let c0_i32_384 : BitVec 32 := 0#32
  let v383 : BitVec 1 := Scalar.cmpi .ne v382 c0_i32_384
  let v387 : BitVec 1 := Scalar.andi v386 v383
  let v388 : BitVec 32 := Scalar.addi v382 v381
  let v389 : BitVec 32 := Scalar.select v387 v388 v382
  let c256_i32_387 : BitVec 32 := 256#32
  let v390 : BitVec 32 := Scalar.muli v389 c256_i32_387
  let c0_i32_405 : BitVec 32 := 0#32
  ![v390.toNat, 0]
def k0_dev11 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_428 : BitVec 32 := 1#32
  let v421 : BitVec 32 := Scalar.muli v24 c1_i32_428
  let v422 : BitVec 32 := Scalar.addi c0_i32_429 v421
  v422.toNat
def k0_dev12 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_456 : BitVec 32 := 1#32
  let v441 : BitVec 32 := Scalar.muli v13 c1_i32_456
  let v442 : BitVec 32 := Scalar.addi c0_i32_457 v441
  v442.toNat
def k0_dev13 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_484 : BitVec 32 := 1#32
  let v461 : BitVec 32 := Scalar.muli v24 c1_i32_484
  let v462 : BitVec 32 := Scalar.addi c0_i32_485 v461
  v462.toNat
def k0_dev14 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_512 : BitVec 32 := 1#32
  let v481 : BitVec 32 := Scalar.muli v13 c1_i32_512
  let v482 : BitVec 32 := Scalar.addi c0_i32_513 v481
  v482.toNat
def k0_dev15 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_598 : BitVec 32 := 1#32
  let v569 : BitVec 32 := Scalar.muli v24 c1_i32_598
  let v570 : BitVec 32 := Scalar.addi c0_i32_599 v569
  v570.toNat
def k0_dev16 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_626 : BitVec 32 := 1#32
  let v589 : BitVec 32 := Scalar.muli v13 c1_i32_626
  let v590 : BitVec 32 := Scalar.addi c0_i32_627 v589
  v590.toNat
def k0_dev17 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_654 : BitVec 32 := 1#32
  let v609 : BitVec 32 := Scalar.muli v24 c1_i32_654
  let v610 : BitVec 32 := Scalar.addi c0_i32_655 v609
  v610.toNat
def k0_dev18 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_682 : BitVec 32 := 1#32
  let v629 : BitVec 32 := Scalar.muli v13 c1_i32_682
  let v630 : BitVec 32 := Scalar.addi c0_i32_683 v629
  v630.toNat
def k0_dev19 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_767 : BitVec 32 := 1#32
  let v717 : BitVec 32 := Scalar.muli v24 c1_i32_767
  let v718 : BitVec 32 := Scalar.addi c0_i32_768 v717
  v718.toNat
def k0_dev20 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_795 : BitVec 32 := 1#32
  let v737 : BitVec 32 := Scalar.muli v13 c1_i32_795
  let v738 : BitVec 32 := Scalar.addi c0_i32_796 v737
  v738.toNat
def k0_dev21 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_823 : BitVec 32 := 1#32
  let v757 : BitVec 32 := Scalar.muli v24 c1_i32_823
  let v758 : BitVec 32 := Scalar.addi c0_i32_824 v757
  v758.toNat
def k0_dev22 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_851 : BitVec 32 := 1#32
  let v777 : BitVec 32 := Scalar.muli v13 c1_i32_851
  let v778 : BitVec 32 := Scalar.addi c0_i32_852 v777
  v778.toNat
def k0_dev23 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_936 : BitVec 32 := 1#32
  let v865 : BitVec 32 := Scalar.muli v24 c1_i32_936
  let v866 : BitVec 32 := Scalar.addi c0_i32_937 v865
  v866.toNat
def k0_dev24 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_964 : BitVec 32 := 1#32
  let v885 : BitVec 32 := Scalar.muli v13 c1_i32_964
  let v886 : BitVec 32 := Scalar.addi c0_i32_965 v885
  v886.toNat
def k0_dev25 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_992 : BitVec 32 := 1#32
  let v905 : BitVec 32 := Scalar.muli v24 c1_i32_992
  let v906 : BitVec 32 := Scalar.addi c0_i32_993 v905
  v906.toNat
def k0_dev26 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1020 : BitVec 32 := 1#32
  let v925 : BitVec 32 := Scalar.muli v13 c1_i32_1020
  let v926 : BitVec 32 := Scalar.addi c0_i32_1021 v925
  v926.toNat
def k0_dev27 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1105 : BitVec 32 := 1#32
  let v1013 : BitVec 32 := Scalar.muli v24 c1_i32_1105
  let v1014 : BitVec 32 := Scalar.addi c0_i32_1106 v1013
  v1014.toNat
def k0_dev28 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1133 : BitVec 32 := 1#32
  let v1033 : BitVec 32 := Scalar.muli v13 c1_i32_1133
  let v1034 : BitVec 32 := Scalar.addi c0_i32_1134 v1033
  v1034.toNat
def k0_dev29 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1161 : BitVec 32 := 1#32
  let v1053 : BitVec 32 := Scalar.muli v24 c1_i32_1161
  let v1054 : BitVec 32 := Scalar.addi c0_i32_1162 v1053
  v1054.toNat
def k0_dev30 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1189 : BitVec 32 := 1#32
  let v1073 : BitVec 32 := Scalar.muli v13 c1_i32_1189
  let v1074 : BitVec 32 := Scalar.addi c0_i32_1190 v1073
  v1074.toNat
def k0_dev31 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1274 : BitVec 32 := 1#32
  let v1161 : BitVec 32 := Scalar.muli v24 c1_i32_1274
  let v1162 : BitVec 32 := Scalar.addi c0_i32_1275 v1161
  v1162.toNat
def k0_dev32 (d0 : Dev nD) : Nat :=
  let c0_i32_1289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1288 : BitVec 32 := 1#32
  let v1172 : BitVec 32 := Scalar.muli v24 c1_i32_1288
  let v1173 : BitVec 32 := Scalar.addi c0_i32_1289 v1172
  v1173.toNat
def k0_dev33 (d0 : Dev nD) : Nat :=
  let c0_i32_1345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1344 : BitVec 32 := 1#32
  let v1210 : BitVec 32 := Scalar.muli v13 c1_i32_1344
  let v1211 : BitVec 32 := Scalar.addi c0_i32_1345 v1210
  v1211.toNat
def k0_dev34 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1358 : BitVec 32 := 1#32
  let v1221 : BitVec 32 := Scalar.muli v13 c1_i32_1358
  let v1222 : BitVec 32 := Scalar.addi c0_i32_1359 v1221
  v1222.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v1336 : BitVec 32 := Scalar.addi v2 c8_i32
  let c16_i32_1479 : BitVec 32 := 16#32
  let c0_i32_1480 : BitVec 32 := 0#32
  let v1337 : BitVec 1 := Scalar.cmpi .eq c16_i32_1479 c0_i32_1480
  let c1_i32_1481 : BitVec 32 := 1#32
  let v1338 : BitVec 32 := Scalar.select v1337 c1_i32_1481 c16_i32_1479
  let v1339 : BitVec 32 := Scalar.remsi v1336 v1338
  let c0_i32_1483 : BitVec 32 := 0#32
  let v1341 : BitVec 1 := Scalar.cmpi .slt v1339 c0_i32_1483
  let c0_i32_1484 : BitVec 32 := 0#32
  let v1342 : BitVec 1 := Scalar.cmpi .slt v1338 c0_i32_1484
  let v1343 : BitVec 1 := Scalar.xori v1341 v1342
  let c0_i32_1482 : BitVec 32 := 0#32
  let v1340 : BitVec 1 := Scalar.cmpi .ne v1339 c0_i32_1482
  let v1344 : BitVec 1 := Scalar.andi v1343 v1340
  let v1345 : BitVec 32 := Scalar.addi v1339 v1338
  let v1346 : BitVec 32 := Scalar.select v1344 v1345 v1339
  let c256_i32_1485 : BitVec 32 := 256#32
  let v1347 : BitVec 32 := Scalar.muli v1346 c256_i32_1485
  let c0_i32_1512 : BitVec 32 := 0#32
  ![v1347.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Common.lean ====
/-
# The ring all-gather matmul: names, contents and regions

Sixteen devices on a ring. Every device narrows its own 256 rows of `x` and its own 512 columns of `w`, sends the
rows both ways round the ring, and multiplies each block of rows it holds by its columns. A block travels in two
halves per direction; after seven full hops the eighth hop moves only half a block in each direction, as two quarters.

This module names the neighbours, the flows (direction, hop, half), what every buffer holds, and the regions of
the landing buffers the flows move.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.BigSepL
public import Idealize.ShloMosaic.Lib.Transfers
public import Idealize.ShloMosaic.Lib.ValueIdxCore
public import Idealize.ShloMosaic.Lib.ValueLayout
public import Idealize.ShloMosaic.Lib.Tactic

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]

/-! ## The resource algebra: the pipeline's rounds, the ring's rounds (duties `Bool`), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The ring -/

/-- The device `k` places before `c` (`true`) or after it (`false`). -/
def org (d : Bool) (c : Dev nD) (k : ℕ) : Dev nD := ⟨(c.val + (if d then 15 * k else k)) % 16, Nat.mod_lt _ (by decide)⟩

def nxt (c : Dev nD) : Dev nD := ⟨(c.val + 1) % 16, Nat.mod_lt _ (by decide)⟩
def prv (c : Dev nD) : Dev nD := ⟨(c.val + 15) % 16, Nat.mod_lt _ (by decide)⟩
/-- Where a flow goes: `true` to the next device, `false` to the previous one. -/
def nb (d : Bool) (c : Dev nD) : Dev nD := if d then nxt c else prv c

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

theorem nb_not_nb (d : Bool) (c : Dev nD) : nb (!d) (nb d c) = c := by
  cases d
  · exact nxt_prv c
  · exact prv_nxt c

theorem org_zero (d : Bool) (c : Dev nD) : org d c 0 = c := by
  apply Fin.ext; have := c.isLt; cases d <;> simp only [org] <;> simp <;> omega
/-- What lands in slot `h` of a neighbour comes from the device this one would name `h` places back. -/
theorem org_nb (d : Bool) (c : Dev nD) (h : ℕ) : org d (nb d c) (h + 1) = org d c h := by
  apply Fin.ext
  cases d <;> simp only [org, nb, nxt, prv, if_true, if_false, Bool.false_eq_true] <;> omega
theorem org_eight (c : Dev nD) : org true c 8 = org false c 8 := by
  apply Fin.ext; simp only [org, if_true, if_false, Bool.false_eq_true]; omega

/-! ## The flows -/

/-- A flow: its direction (`true` towards the next device), its hop, its half. -/
abbrev Flow : Type := Bool × Fin 8 × Fin 2

/-- The first row of a flow's piece in its slot, and how many rows it has: 128 each for hops 0 to 6; at hop 7 two
    quarters, of the first half towards the next device, of the second half towards the previous one. -/
def lo (f : Flow) : ℕ := if f.2.1 = 7 then (if f.1 then 64 * f.2.2 else 128 + 64 * f.2.2) else 128 * f.2.2
def len (f : Flow) : ℕ := if f.2.1 = 7 then 64 else 128

/-- The ring's cells of a device: its barrier (`none`), the send cells (`some (false, f)`), the receive cells. -/
abbrev Cell : Type := Option (Bool × Flow)

def dmaNo (k : Bool) (f : Flow) : ℕ := (if f.1 then (if k then 32 else 16) else (if k then 64 else 48)) + 2 * f.2.1.val + f.2.2.val
theorem dmaNo_lt (k : Bool) (f : Flow) : dmaNo k f < 80 := by
  obtain ⟨d, h, j⟩ := f; have := h.isLt; have := j.isLt
  unfold dmaNo; cases k <;> cases d <;> simp <;> omega
theorem dmaNo_ge (k : Bool) (f : Flow) : 16 ≤ dmaNo k f := by
  obtain ⟨d, h, j⟩ := f; unfold dmaNo; cases k <;> cases d <;> simp <;> omega

abbrev barS : Sem sig := (SemArray.scalar (sig.barrier 0 rfl) : Sems sig S_).sem
abbrev dmaS (k : Bool) (f : Flow) : DmaSem sig := ⟨dmaNo k f, dmaNo_lt k f⟩
def csem : Cell → SemLoc sig
  | none => .reg barS
  | some (k, f) => .dma (dmaS k f)
abbrev kcell (p : Dev nD × Cell) : GSem nD τ sig := ((p.1 : Thread nD τ), csem p.2)

/-- The flow a semaphore number belongs to. -/
def flowOf (n : ℕ) : Flow := (decide (n < 48), ⟨(n % 16) / 2, by omega⟩, ⟨n % 2, by omega⟩)
/-- Which of a device's ring cells a semaphore is, if any. -/
def decode : SemLoc sig → Option Cell
  | .reg _ => some none
  | .dma q => if q.val < 16 then none else some (some (decide ((q.val / 16) % 2 = 0), flowOf q.val))

theorem decode_csem (i : Cell) : decode (csem i) = some i := by
  rcases i with _ | ⟨k, d, h, j⟩
  · rfl
  · revert k d h j; decide +kernel
theorem csem_inj : Function.Injective csem := fun a b h => by
  have := decode_csem a; rw [h, decode_csem] at this; exact (Option.some.inj this).symm

/-! ## The order of the sends and of the receives -/

/-- The sends in program order. -/
def sends : List Flow :=
  ([0, 1, 2, 3, 4, 5, 6] : List (Fin 8)).flatMap (fun h => [(true, h, 0), (false, h, 0), (true, h, 1), (false, h, 1)])
    ++ [(true, 7, 0), (true, 7, 1), (false, 7, 0), (false, 7, 1)]
/-- The receives in program order. -/
def recvs : List Flow :=
  ([0, 1, 2, 3, 4, 5, 6, 7] : List (Fin 8)).flatMap (fun h => [(true, h, 0), (false, h, 0), (true, h, 1), (false, h, 1)])
/-- The order in which the program waits for its own sends to have left. -/
def drains : List Flow :=
  ([true, false] : List Bool).flatMap fun d => ([0, 1, 2, 3, 4, 5, 6, 7] : List (Fin 8)).flatMap fun h => [(d, h, 0), (d, h, 1)]

theorem sends_nodup : sends.Nodup := by decide
theorem recvs_nodup : recvs.Nodup := by decide
theorem drains_nodup : drains.Nodup := by decide
theorem sends_univ : (Finset.univ : Finset Flow) = sends.toFinset := by decide +kernel
theorem recvs_univ : (Finset.univ : Finset Flow) = recvs.toFinset := by decide +kernel
theorem drains_univ : (Finset.univ : Finset Flow) = drains.toFinset := by decide +kernel

/-! ## Regions -/

/-- Rows `a` to `b` of slot `h` of a landing buffer. -/
def rg (h a b : ℕ) : Finset S8x256x4096.Idx := Finset.univ.filter fun i => (i 0).val = h ∧ a ≤ (i 1).val ∧ (i 1).val < b
/-- Rows `a` to `b` of a matrix. -/
def rw2 (R C : ℕ) (a b : ℕ) : Finset (⟨2, ![R, C]⟩ : Shape).Idx := Finset.univ.filter fun i => a ≤ (i 0).val ∧ (i 0).val < b
/-- Slot `s` of a double buffer. -/
def sl2 (A B : ℕ) (s : ℕ) : Finset (⟨3, ![2, A, B]⟩ : Shape).Idx := Finset.univ.filter fun i => (i 0).val = s

theorem mem_rg {h a b : ℕ} {i : S8x256x4096.Idx} : i ∈ rg h a b ↔ (i 0).val = h ∧ a ≤ (i 1).val ∧ (i 1).val < b := by
  unfold rg; rw [Finset.mem_filter]; exact ⟨fun h => h.2, fun h => ⟨Finset.mem_univ _, h⟩⟩
theorem mem_rw2 {R C a b : ℕ} {i : (⟨2, ![R, C]⟩ : Shape).Idx} : i ∈ rw2 R C a b ↔ a ≤ (i 0).val ∧ (i 0).val < b := by
  unfold rw2; rw [Finset.mem_filter]; exact ⟨fun h => h.2, fun h => ⟨Finset.mem_univ _, h⟩⟩
theorem mem_sl2 {A B s : ℕ} {i : (⟨3, ![2, A, B]⟩ : Shape).Idx} : i ∈ sl2 A B s ↔ (i 0).val = s := by
  unfold sl2; rw [Finset.mem_filter]; exact ⟨fun h => h.2, fun h => ⟨Finset.mem_univ _, h⟩⟩

/-- A block of rows of one slot, as a rectangle, is the region. -/
theorem set_rg {h a n : ℕ} {inb} : (Rect.unit (s := S8x256x4096) ![h, a, 0] ![1, n, 4096] inb).set = rg h a (a + n) := by
  ext i
  rw [Rect.mem_set_unit, mem_rg]
  constructor
  · intro H; have h0 := H 0; have h1 := H 1
    simp only [Matrix.cons_val_zero, Matrix.cons_val_one] at h0 h1
    omega
  · rintro ⟨e, l, u⟩ d
    have := (i 2).isLt
    fin_cases d
    · show h ≤ (i 0).val ∧ (i 0).val < h + 1; omega
    · show a ≤ (i 1).val ∧ (i 1).val < a + n; omega
    · show 0 ≤ (i 2).val ∧ (i 2).val < 0 + 4096; exact ⟨Nat.zero_le _, by rw [Nat.zero_add]; exact this⟩

theorem set_rw2 {R C a n : ℕ} {inb} : (Rect.unit (s := ⟨2, ![R, C]⟩) ![a, 0] ![n, C] inb).set = rw2 R C a (a + n) := by
  ext i
  rw [Rect.mem_set_unit, mem_rw2]
  constructor
  · intro H; have h0 := H 0
    simpa only [Matrix.cons_val_zero] using h0
  · intro H d
    have := (i 1).isLt
    fin_cases d
    · exact H
    · show 0 ≤ (i 1).val ∧ (i 1).val < 0 + C; exact ⟨Nat.zero_le _, by rw [Nat.zero_add]; exact this⟩

theorem set_sl2 {A B s : ℕ} {inb} : (Rect.unit (s := ⟨3, ![2, A, B]⟩) ![s, 0, 0] ![1, A, B] inb).set = sl2 A B s := by
  ext i
  rw [Rect.mem_set_unit, mem_sl2]
  constructor
  · intro H; have h0 := H 0
    simp only [Matrix.cons_val_zero] at h0
    omega
  · intro e d
    have h1 := (i 1).isLt
    have h2 := (i 2).isLt
    fin_cases d
    · show s ≤ (i 0).val ∧ (i 0).val < s + 1; omega
    · show 0 ≤ (i 1).val ∧ (i 1).val < 0 + A; exact ⟨Nat.zero_le _, by rw [Nat.zero_add]; exact h1⟩
    · show 0 ≤ (i 2).val ∧ (i 2).val < 0 + B; exact ⟨Nat.zero_le _, by rw [Nat.zero_add]; exact h2⟩

/-! ## Contents -/

section Contents
variable (m : (ℓ : Loc nD τ sig) → Buf (Elt F) ℓ)

/-- Device `c`'s rows of `x` and columns of `w`, as launched. -/
def xin (c : Dev nD) : FVec F S256x4096 .f32 := m ((c : Thread nD τ).loc main_arg0)
def win (c : Dev nD) : FVec F S4096x512 .f32 := m ((c : Thread nD τ).loc main_arg1)
/-- The same narrowed. -/
def X (c : Dev nD) : FVec F S256x4096 .fp8e4m3 := truncf .fp8e4m3 (xin m c) bitsLt_fp8e4m3_f32
def W (c : Dev nD) : FVec F S4096x512 .fp8e4m3 := truncf .fp8e4m3 (win m c) bitsLt_fp8e4m3_f32
/-- The two scales' product. -/
def sc (c : Dev nD) : F .f32 :=
  k0_pay1 ((m ((c : Thread nD τ).loc main_arg2) : FVec F S1 .f32) (ix1 (0 : Fin 1))) ((m ((c : Thread nD τ).loc main_arg3) : FVec F S1 .f32) (ix1 (0 : Fin 1)))

/-- What the landing buffers hold when all has arrived: slot `h` holds the rows of the device `h + 1` places back. -/
def G (d : Bool) (c : Dev nD) : FVec F S8x256x4096 .fp8e4m3 := fun i => X m (org d c ((i 0).val + 1)) (ix2 (i 1) (i 2))

/-- The rows of device `o` with a leading unit axis, and half of them. -/
def XS (o : Dev nD) : FVec F S1x256x4096 .fp8e4m3 := fun i => X m o (ix2 (i 1) (i 2))
def XH (j : Fin 2) (o : Dev nD) : FVec F S1x128x4096 .fp8e4m3 :=
  fun i => X m o (ix2 (⟨128 * j.val + (i 1).val, by have h1 : (i 1).val < 128 := (i 1).isLt; have := j.isLt; omega⟩ : Fin 256) (i 2))

/-- The block of results device `c` makes of the rows of device `o`: in one product, -/
def blkA (c o : Dev nD) : FVec F S1x256x512 .f32 := k0_pay16 (sc m c) (XS m o) (W m c)
/-- and, of the rows that came half from each side, in two. -/
def blkB (c o : Dev nD) : FVec F S1x256x512 .f32 := fun i =>
  if h : (i 1).val < 128 then k0_pay39 (sc m c) (XH m 0 o) (W m c) (ix3 (0 : Fin 1) (⟨(i 1).val, h⟩ : Fin 128) (i 2))
  else k0_pay39 (sc m c) (XH m 1 o) (W m c)
    (ix3 (0 : Fin 1) (⟨(i 1).val - 128, by have h1 : (i 1).val < 256 := (i 1).isLt; omega⟩ : Fin 128) (i 2))
def blk (c o : Dev nD) : FVec F S1x256x512 .f32 := if o = org false c 8 then blkB m c o else blkA m c o

/-- The device whose rows a row of the result comes from. -/
def rowDev (i : S4096x512.Idx) : Dev nD := ⟨(i 0).val / 256, by have h : (i 0).val < 4096 := (i 0).isLt; show _ < 16; omega⟩
/-- The result on device `c`. -/
def outV (c : Dev nD) : FVec F S4096x512 .f32 := fun i =>
  blk m c (rowDev i) (ix3 (0 : Fin 1) (⟨(i 0).val % 256, Nat.mod_lt _ (by decide)⟩ : Fin 256) (i 1))

end Contents

end Cert.Ring
-- ==== Proof.Sched.lean ====
/-
# The schedule of the ring's cells

One round per cell. A barrier cell has a duty from each neighbour, of one unit, handing over the pieces of that
neighbour's landing buffer this device will fill. A receive cell's one duty hands its owner the landed piece; a send
cell's one duty hands back the share of the source piece that went with the copy.
-/
module

public import proofs.«01_k».proof.Proof.Common

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ

/-! ## Pieces of the buffers -/

/-- Elements of device `c`'s landing buffer of direction `d`, at a share and contents. -/
def land (d : Bool) (c : Dev nD) (q : PosShare TreeShare) (S : Finset S8x256x4096.Idx) (f : FVec F S8x256x4096 .fp8e4m3) : sProp 𝕄 :=
  match d with
  | true => ((c : Thread nD τ).loc cc0_scratch2) ↦[S]{q} (show Buf (Elt F) ((c : Thread nD τ).loc cc0_scratch2) from f)
  | false => ((c : Thread nD τ).loc cc0_scratch3) ↦[S]{q} (show Buf (Elt F) ((c : Thread nD τ).loc cc0_scratch3) from f)
instance land_storable (d : Bool) (c : Dev nD) (q) (S) (f) : BI.Storable (upEmb : UEmb _ 𝕄) (land (F := F) d c q S f) := by
  cases d <;> (unfold land; infer_instance)

/-- Rows of device `c`'s narrowed block. -/
def x8P (c : Dev nD) (q : PosShare TreeShare) (S : Finset S256x4096.Idx) (f : FVec F S256x4096 .fp8e4m3) : sProp 𝕄 :=
  ((c : Thread nD τ).loc cc0_scratch0) ↦[S]{q} (show Buf (Elt F) ((c : Thread nD τ).loc cc0_scratch0) from f)
instance x8P_storable (c : Dev nD) (q) (S) (f) : BI.Storable (upEmb : UEmb _ 𝕄) (x8P (F := F) c q S f) := by unfold x8P; infer_instance

/-- The rows a flow moves, in its own slot of the landing buffer and in the slot it is forwarded from. -/
def piece (f : Flow) : Finset S8x256x4096.Idx := rg f.2.1.val (lo f) (lo f + len f)
def fromPiece (f : Flow) : Finset S8x256x4096.Idx := rg (f.2.1.val - 1) (lo f) (lo f + len f)
def x8Piece (f : Flow) : Finset S256x4096.Idx := rw2 256 4096 (lo f) (lo f + len f)

/-- The share of the narrowed block that goes with each direction's first copy: the third is kept for the product. -/
def x8Share (d : Bool) : PosShare TreeShare := if d then fullShare.left.left else fullShare.left.right

variable (m : (ℓ : Loc nD τ sig) → Buf (Elt F) ℓ)

/-- The source piece of a flow, at the share that goes with the copy. -/
def srcP (c : Dev nD) (f : Flow) : sProp 𝕄 :=
  if f.2.1.val = 0 then x8P c (x8Share f.1) (x8Piece f) (X m c) else land f.1 c fullShare.left (fromPiece f) (G m f.1 c)
/-- The landed piece of a flow. -/
def landP (c : Dev nD) (f : Flow) : sProp 𝕄 := land f.1 c fullShare (piece f) (G m f.1 c)
/-- The piece of device `c`'s landing buffer a flow will fill, holding anything. -/
def freeP (c : Dev nD) (f : Flow) : sProp 𝕄 := iprop(∃ g, land (F := F) f.1 c fullShare (piece f) g)

instance srcP_storable (c : Dev nD) (f : Flow) : BI.Storable (upEmb : UEmb _ 𝕄) (srcP m c f) := by
  unfold srcP; split <;> infer_instance
instance landP_storable (c : Dev nD) (f : Flow) : BI.Storable (upEmb : UEmb _ 𝕄) (landP m c f) := by unfold landP; infer_instance
instance freeP_storable (c : Dev nD) (f : Flow) : BI.Storable (upEmb : UEmb _ 𝕄) (freeP (F := F) c f) := by unfold freeP; infer_instance

/-- The flows of a direction. -/
def flowsOf (d : Bool) : List Flow := ([0, 1, 2, 3, 4, 5, 6, 7] : List (Fin 8)).flatMap fun h => [(d, h, 0), (d, h, 1)]

/-- What the neighbour in direction `d` hands device `c` at the barrier: the pieces of its landing buffer `c` fills. -/
def barPay (c : Dev nD) (d : Bool) : sProp 𝕄 := bigSep (Finset.univ : Finset (Fin 8 × Fin 2)) fun p => freeP (F := F) (nb d c) (d, p)
instance barPay_storable (c : Dev nD) (d : Bool) : BI.Storable (upEmb : UEmb _ 𝕄) (barPay (F := F) c d) := by unfold barPay; infer_instance

/-! ## Amounts -/

abbrev Mr : Memref sig .tc .vmem S8x256x4096 .fp8e4m3 := Memref.whole cc0_scratch2
/-- The credit of a half block and of a quarter. -/
def N128 : ℕ := ((Mr.slice (Rect.unit (s := S8x256x4096) ![0, 0, 0] S1x128x4096.size inb_S8x256x4096_S1x128x4096_0_0_0) (fun _ => rfl)).squeeze
  S128x4096 squeezes_S1x128x4096_S128x4096).view.dmaCredit
def N64 : ℕ := ((Mr.slice (Rect.unit (s := S8x256x4096) ![7, 0, 0] S1x64x4096.size inb_S8x256x4096_S1x64x4096_7_0_0) (fun _ => rfl)).squeeze
  S64x4096 squeezes_S1x64x4096_S64x4096).view.dmaCredit
theorem N128_pos : 0 < N128 := View.dmaCredit_pos _ (by decide)
theorem N64_pos : 0 < N64 := View.dmaCredit_pos _ (by decide)
def Nc (f : Flow) : ℕ := if f.2.1 = 7 then N64 else N128
theorem Nc_pos (f : Flow) : 0 < Nc f := by unfold Nc; split <;> first | exact N64_pos | exact N128_pos

/-! ## The schedule -/

def dutiesOf : Option Cell → Finset Bool
  | none => ∅
  | some none => Finset.univ
  | some (some _) => {false}
def amountOf : Option Cell → ℕ
  | some (some (_, f)) => Nc f
  | _ => 1
def payOf (c : Dev nD) : Option Cell → Bool → sProp 𝕄
  | some none, d => barPay c d
  | some (some (true, f)), _ => landP m c f
  | some (some (false, f)), _ => srcP m c f
  | none, _ => iprop(emp)

instance payOf_storable (c : Dev nD) (i : Option Cell) (d : Bool) : BI.Storable (upEmb : UEmb _ 𝕄) (payOf m c i d) := by
  rcases i with _ | _ | ⟨k, f⟩
  · unfold payOf; infer_instance
  · unfold payOf; infer_instance
  · cases k <;> (unfold payOf; infer_instance)

def ringRd : Rounds.Schedule (GSem nD τ sig) Bool 𝕄 where
  duties g r := if r = 0 ∧ g.1.2 = .tc then dutiesOf (decode g.2) else ∅
  unitless _ := False
  amount g _ _ := amountOf (decode g.2)
  payload g _ d := payOf m g.1.1 (decode g.2) d
  amount_pos g _ _ _ := by
    rcases decode g.2 with _ | _ | ⟨k, f⟩
    · exact Nat.one_pos
    · exact Nat.one_pos
    · exact Nc_pos f

instance ringRd_payload_storable (g : GSem nD τ sig) (r : ℕ) (d : Bool) :
    BI.Storable (upEmb : UEmb _ 𝕄) ((ringRd (F := F) m).payload g r d) := payOf_storable m _ _ _

theorem duties_cell (c : Dev nD) (i : Cell) : (ringRd (F := F) m).duties (kcell (c, i)) 0 = dutiesOf (some i) := by
  dsimp only [ringRd]; rw [if_pos ⟨rfl, rfl⟩]; exact congrArg dutiesOf (decode_csem i)
theorem duties_later (g : GSem nD τ sig) : ∀ r, 1 ≤ r → (ringRd (F := F) m).duties g r = ∅ :=
  fun r hr => by dsimp only [ringRd]; rw [if_neg fun h => by omega]
theorem amount_cell (c : Dev nD) (i : Cell) (r : ℕ) (d : Bool) : (ringRd (F := F) m).amount (kcell (c, i)) r d = amountOf (some i) :=
  congrArg amountOf (decode_csem i)
theorem payload_cell (c : Dev nD) (i : Cell) (r : ℕ) (d : Bool) : (ringRd (F := F) m).payload (kcell (c, i)) r d = payOf m c (some i) d :=
  congrArg (fun j => payOf m c j d) (decode_csem i)

theorem expect_bar (c : Dev nD) : (ringRd (F := F) m).expect (kcell (c, none)) 0 = 2 := by
  unfold Schedule.expect Schedule.amountOf
  rw [duties_cell, Finset.sum_congr rfl fun d _ => amount_cell m c none 0 d]; rfl
theorem expect_flow (c : Dev nD) (k : Bool) (f : Flow) : (ringRd (F := F) m).expect (kcell (c, some (k, f))) 0 = Nc f := by
  unfold Schedule.expect Schedule.amountOf
  rw [duties_cell]; unfold dutiesOf; rw [Finset.sum_singleton, amount_cell]; rfl
theorem rest_bar (c : Dev nD) : bigSep ((ringRd (F := F) m).duties (kcell (c, none)) 0 \ ∅) (fun d => (ringRd (F := F) m).payload (kcell (c, none)) 0 d)
    = iprop(barPay c false ∗ barPay c true) := by
  rw [Finset.sdiff_empty, duties_cell]; unfold dutiesOf
  rw [bigSep_univ_eq_bigSepL [false, true] (by decide) (by decide), bigSepL_cons_cons, bigSepL_singleton, payload_cell, payload_cell]
  rfl
theorem rest_flow (c : Dev nD) (k : Bool) (f : Flow) :
    bigSep ((ringRd (F := F) m).duties (kcell (c, some (k, f))) 0 \ ∅) (fun d => (ringRd (F := F) m).payload (kcell (c, some (k, f))) 0 d)
      = payOf m c (some (some (k, f))) false := by
  rw [Finset.sdiff_empty, duties_cell]; unfold dutiesOf
  rw [bigSep_singleton, payload_cell]

/-! ## What is owed, and the levels -/

abbrev recvAt (c : Dev nD) (f : Flow) : GSem nD τ sig := kcell (c, some (true, f))
abbrev sendAt (c : Dev nD) (f : Flow) : GSem nD τ sig := kcell (c, some (false, f))
abbrev barAt (c : Dev nD) : GSem nD τ sig := kcell (c, none)

/-- What device `c` owes while the flows `l` are still to be sent: each one's credit at its destination's receive cell. -/
def owed (c : Dev nD) : List Flow → CellTallies nD τ sig Unit
  | [] => 0
  | f :: l => owed c l + tallyAt (recvAt (nb f.1 c) f) () (Nc f)
/-- At launch, moreover a unit to each neighbour's barrier. -/
def O₁ (c : Dev nD) : CellTallies nD τ sig Unit := owed c sends + tallyAt (barAt (nxt c)) () 1
def O₀ (c : Dev nD) : CellTallies nD τ sig Unit := O₁ c + tallyAt (barAt (prv c)) () 1

def L (g : GSem nD τ sig) : Finset Unit := if g.1.2 = .tc then {()} else ∅
def lvOf : Option Cell → ℕ
  | some none => 1
  | some (some (true, f)) => 2 + f.2.1.val
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Cell) (u : Unit) : lv (kcell (c, i)) u = lvOf (some i) := congrArg lvOf (decode_csem i)

theorem owed_pos {c : Dev nD} {l : List Flow} {g : GSem nD τ sig} {u : Unit} (h : 0 < owed c l g u) :
    ∃ f ∈ l, g = recvAt (nb f.1 c) f := by
  induction l with
  | nil => exact absurd h (Nat.lt_irrefl 0)
  | cons f l ih =>
    unfold owed at h
    rw [Pi.add_apply, Finsupp.add_apply, tallyAt_apply] at h
    by_cases hg : g = recvAt (nb f.1 c) f
    · exact ⟨f, List.mem_cons_self, hg⟩
    · rw [if_neg (fun h' => hg h'.1)] at h
      obtain ⟨f', hf, e⟩ := ih h
      exact ⟨f', List.mem_cons_of_mem _ hf, e⟩

theorem owed_bar_pos {c : Dev nD} {l : List Flow} {g : GSem nD τ sig} {u : Unit}
    (h : 0 < (owed c l + tallyAt (barAt (nxt c)) () 1 + tallyAt (barAt (prv c)) () 1) g u) :
    (∃ f ∈ l, g = recvAt (nb f.1 c) f) ∨ ∃ c', g = barAt c' := by
  rw [Pi.add_apply, Finsupp.add_apply, Pi.add_apply, Finsupp.add_apply, tallyAt_apply, tallyAt_apply] at h
  by_cases h1 : g = barAt (nxt c)
  · exact .inr ⟨_, h1⟩
  by_cases h2 : g = barAt (prv c)
  · exact .inr ⟨_, h2⟩
  rw [if_neg (fun h' => h1 h'.1), if_neg (fun h' => h2 h'.1)] at h
  exact .inl (owed_pos h)

theorem O₀_pos {c : Dev nD} {g : GSem nD τ sig} {u : Unit} (h : 0 < O₀ c g u) :
    (∃ f ∈ sends, g = recvAt (nb f.1 c) f) ∨ ∃ c', g = barAt c' := by
  unfold O₀ O₁ at h; generalize sends = l at h ⊢; exact owed_bar_pos h

/-- A wait below every cell still owed is allowed. -/
theorem mayWait_owed (c : Dev nD) (sm : SemLoc sig) (l : List Flow) (h : ∀ f ∈ l, lvOf (decode sm) < 2 + f.2.1.val) :
    (levAts L lv : sProp 𝕄) ⊢ MayWait (c : Thread nD τ) sm () (owed c l) :=
  MayOwe.of_cut (L := L) (lev := lv) (lvOf (decode sm)) (fun p hp => by rw [Finset.mem_singleton.mp hp, L_tc]; exact Finset.mem_singleton_self _)
    (fun g u hg => by obtain ⟨f, hf, rfl⟩ := owed_pos hg; exact Finset.mem_singleton_self _)
    (fun p hp => by rw [Finset.mem_singleton.mp hp]; exact le_refl _)
    (fun g u hg => by obtain ⟨f, hf, rfl⟩ := owed_pos hg; rw [lv_cell]; exact h f hf)

/-- The staging waits before the body, all still owed. -/
theorem mayWait_start (c : Dev nD) (sm : SemLoc sig) (h : lvOf (decode sm) = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨f, hf, rfl⟩ | ⟨c', rfl⟩ <;> exact Finset.mem_singleton_self _)
    (fun p hp => by rw [Finset.mem_singleton.mp hp]; exact le_of_eq h)
    (fun g u hg => by
      rcases O₀_pos hg with ⟨f, hf, rfl⟩ | ⟨c', rfl⟩
      · rw [lv_cell]; show 0 < 2 + f.2.1.val; omega
      · rw [lv_cell]; exact Nat.one_pos)

end Cert.Ring
-- ==== Proof.Program.lean ====
/-
# The body, restated by phases

The body's operations again, each phase written once at a symbolic piece, hop or band. `body_eq` says that the printed
body is this program.
-/
module

public import proofs.«01_k».proof.Proof.Sched
public import proofs.«01_k».proof.Proof.Gen.KernelIdeal.Points

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]

/-- A program of the kernel's core. -/
abbrev P (α : Type) : Type 1 := Prog (TpuEff nD τ sig (Elt F) Λ₀ .tc) α

/-! ## The buffers and their windows -/

abbrev xH : Memref sig .tc .hbm S256x4096 .f32 := Memref.whole main_arg0
abbrev wH : Memref sig .tc .hbm S4096x512 .f32 := Memref.whole main_arg1
abbrev aM : Memref sig .tc .smem S1 .f32 := Memref.whole cc0_stg0_0
abbrev bM : Memref sig .tc .smem S1 .f32 := Memref.whole cc0_stg1_0
abbrev oH : Memref sig .tc .hbm S4096x512 .f32 := Memref.whole main_v1
abbrev x8M : Memref sig .tc .vmem S256x4096 .fp8e4m3 := Memref.whole cc0_scratch0
abbrev w8M : Memref sig .tc .vmem S4096x512 .fp8e4m3 := Memref.whole cc0_scratch1
abbrev Ml : Memref sig .tc .vmem S8x256x4096 .fp8e4m3 := Memref.whole cc0_scratch3
abbrev sxM : Memref sig .tc .vmem S2x64x4096 .f32 := Memref.whole cc0_scratch4
abbrev swM : Memref sig .tc .vmem S2x512x512 .f32 := Memref.whole cc0_scratch5
abbrev bdM : Memref sig .tc .vmem S2x256x512 .f32 := Memref.whole cc0_scratch6
/-- The landing buffer of a direction. -/
abbrev Md (d : Bool) : Memref sig .tc .vmem S8x256x4096 .fp8e4m3 := match d with | true => Mr | false => Ml

theorem inbX (p : Fin 4) : ∀ a, (![64 * p.val, 0] : Fin 2 → Nat) a + S64x4096.size a ≤ S256x4096.size a := by revert p; decide
theorem inbW (p : Fin 8) : ∀ a, (![512 * p.val, 0] : Fin 2 → Nat) a + S512x512.size a ≤ S4096x512.size a := by revert p; decide
theorem inbSX (s : Fin 2) : ∀ a, (![s.val, 0, 0] : Fin 3 → Nat) a + S1x64x4096.size a ≤ S2x64x4096.size a := by revert s; decide
theorem inbSW (s : Fin 2) : ∀ a, (![s.val, 0, 0] : Fin 3 → Nat) a + S1x512x512.size a ≤ S2x512x512.size a := by revert s; decide
theorem inbBD (s : Fin 2) : ∀ a, (![s.val, 0, 0] : Fin 3 → Nat) a + S1x256x512.size a ≤ S2x256x512.size a := by revert s; decide
theorem inbBH (j : Fin 2) : ∀ a, (![1, 128 * j.val, 0] : Fin 3 → Nat) a + S1x128x512.size a ≤ S2x256x512.size a := by revert j; decide
theorem inb8 (j : Fin 2) : ∀ a, (![128 * j.val, 0] : Fin 2 → Nat) a + S128x4096.size a ≤ S256x4096.size a := by revert j; decide
theorem inb128 (h : Fin 8) (j : Fin 2) : ∀ a, (![h.val, 128 * j.val, 0] : Fin 3 → Nat) a + S1x128x4096.size a ≤ S8x256x4096.size a := by
  revert h j; decide
theorem inb64 (h : Fin 8) (k : Fin 4) : ∀ a, (![h.val, 64 * k.val, 0] : Fin 3 → Nat) a + S1x64x4096.size a ≤ S8x256x4096.size a := by
  revert h k; decide
theorem inbSlot (h : Fin 8) : ∀ a, (![h.val, 0, 0] : Fin 3 → Nat) a + S1x256x4096.size a ≤ S8x256x4096.size a := by revert h; decide

theorem packX (p : Fin 4) : (Rect.unit (s := S256x4096) ![64 * p.val, 0] S64x4096.size (inbX p)).PackedRows (EltTy.packing .fp8e4m3) := by
  revert p; decide +kernel
theorem packW (p : Fin 8) : (Rect.unit (s := S4096x512) ![512 * p.val, 0] S512x512.size (inbW p)).PackedRows (EltTy.packing .fp8e4m3) := by
  revert p; decide +kernel
theorem words8 (j : Fin 2) : (Rect.unit (s := S256x4096) ![128 * j.val, 0] S128x4096.size (inb8 j)).WholeWords (EltTy.packing .fp8e4m3) := by
  revert j; decide +kernel
theorem words128 (h : Fin 8) (j : Fin 2) :
    (Rect.unit (s := S8x256x4096) ![h.val, 128 * j.val, 0] S1x128x4096.size (inb128 h j)).WholeWords (EltTy.packing .fp8e4m3) := by
  revert h j; decide +kernel
theorem words64 (h : Fin 8) (k : Fin 4) :
    (Rect.unit (s := S8x256x4096) ![h.val, 64 * k.val, 0] S1x64x4096.size (inb64 h k)).WholeWords (EltTy.packing .fp8e4m3) := by
  revert h k; decide +kernel

/-- A piece of `x`, a panel of `w`, and the slots they are staged in. -/
abbrev xPc (p : Fin 4) : Memref sig .tc .hbm S64x4096 .f32 := xH.slice (Rect.unit (s := S256x4096) ![64 * p.val, 0] S64x4096.size (inbX p)) (fun _ => rfl)
abbrev wPc (p : Fin 8) : Memref sig .tc .hbm S512x512 .f32 := wH.slice (Rect.unit (s := S4096x512) ![512 * p.val, 0] S512x512.size (inbW p)) (fun _ => rfl)
abbrev rSX (s : Fin 2) : Rect S2x64x4096 := Rect.unit (s := S2x64x4096) ![s.val, 0, 0] S1x64x4096.size (inbSX s)
abbrev rSW (s : Fin 2) : Rect S2x512x512 := Rect.unit (s := S2x512x512) ![s.val, 0, 0] S1x512x512.size (inbSW s)
abbrev rBD (s : Fin 2) : Rect S2x256x512 := Rect.unit (s := S2x256x512) ![s.val, 0, 0] S1x256x512.size (inbBD s)
abbrev rBH (j : Fin 2) : Rect S2x256x512 := Rect.unit (s := S2x256x512) ![1, 128 * j.val, 0] S1x128x512.size (inbBH j)
abbrev rX8 (p : Fin 4) : Rect S256x4096 := Rect.unit (s := S256x4096) ![64 * p.val, 0] S64x4096.size (inbX p)
abbrev rW8 (p : Fin 8) : Rect S4096x512 := Rect.unit (s := S4096x512) ![512 * p.val, 0] S512x512.size (inbW p)
abbrev sxS (s : Fin 2) : Memref sig .tc .vmem S64x4096 .f32 := (sxM.slice (rSX s) (fun _ => rfl)).squeeze S64x4096 squeezes_S1x64x4096_S64x4096
abbrev swS (s : Fin 2) : Memref sig .tc .vmem S512x512 .f32 := (swM.slice (rSW s) (fun _ => rfl)).squeeze S512x512 squeezes_S1x512x512_S512x512
abbrev bdS (s : Fin 2) : Memref sig .tc .vmem S256x512 .f32 := (bdM.slice (rBD s) (fun _ => rfl)).squeeze S256x512 squeezes_S1x256x512_S256x512
/-- A band of the result. -/
abbrev oPc (o : Fin 2 → ℕ) (ho : ∀ a, o a + S256x512.size a ≤ S4096x512.size a) : Memref sig .tc .hbm S256x512 .f32 :=
  oH.slice (Rect.unit (s := S4096x512) o S256x512.size ho) (fun _ => rfl)
/-- Half the narrowed block; half a slot and a quarter of a slot of a landing buffer. -/
abbrev x8h (j : Fin 2) : Memref sig .tc .vmem S128x4096 .fp8e4m3 :=
  x8M.slice (Rect.unit (s := S256x4096) ![128 * j.val, 0] S128x4096.size (inb8 j)) (fun _ => rfl)
abbrev pcH (d : Bool) (h : Fin 8) (j : Fin 2) : Memref sig .tc .vmem S128x4096 .fp8e4m3 :=
  ((Md d).slice (Rect.unit (s := S8x256x4096) ![h.val, 128 * j.val, 0] S1x128x4096.size (inb128 h j)) (fun _ => rfl)).squeeze
    S128x4096 squeezes_S1x128x4096_S128x4096
abbrev pcQ (d : Bool) (h : Fin 8) (k : Fin 4) : Memref sig .tc .vmem S64x4096 .fp8e4m3 :=
  ((Md d).slice (Rect.unit (s := S8x256x4096) ![h.val, 64 * k.val, 0] S1x64x4096.size (inb64 h k)) (fun _ => rfl)).squeeze
    S64x4096 squeezes_S1x64x4096_S64x4096
/-- The quarter of the last hop: of the first half forward, of the second half backward. -/
abbrev qk (d : Bool) (j : Fin 2) : Fin 4 := match d with | true => ⟨j.val, by omega⟩ | false => ⟨2 + j.val, by omega⟩

theorem x8h_we (j : Fin 2) : (x8h j).view.WordExact := (Memref.isWhole_whole cc0_scratch0).wordExact_slice rfl _ (words8 j)
theorem pcH_we (d : Bool) (h : Fin 8) (j : Fin 2) : (pcH d h j).view.WordExact := by
  cases d
  · exact ((Memref.isWhole_whole cc0_scratch3).wordExact_slice rfl _ (words128 h j)).reshape _ _
  · exact ((Memref.isWhole_whole cc0_scratch2).wordExact_slice rfl _ (words128 h j)).reshape _ _
theorem pcQ_we (d : Bool) (h : Fin 8) (k : Fin 4) : (pcQ d h k).view.WordExact := by
  cases d
  · exact ((Memref.isWhole_whole cc0_scratch3).wordExact_slice rfl _ (words64 h k)).reshape _ _
  · exact ((Memref.isWhole_whole cc0_scratch2).wordExact_slice rfl _ (words64 h k)).reshape _ _
theorem pcH_sc (d : Bool) (h : Fin 8) (j : Fin 2) : (pcH d h j).view.ref.isScScratch = false := by cases d <;> rfl
theorem pcQ_sc (d : Bool) (h : Fin 8) (k : Fin 4) : (pcQ d h k).view.ref.isScScratch = false := by cases d <;> rfl

/-! ## The local semaphores -/

abbrev semX (p : Fin 4) : DmaSem sig := ⟨2 + p.val, by have := p.isLt; show _ < 80; omega⟩
abbrev semW (p : Fin 8) : DmaSem sig := ⟨6 + p.val, by have := p.isLt; show _ < 80; omega⟩
abbrev semB (s : Fin 2) : DmaSem sig := ⟨14 + s.val, by have := s.isLt; show _ < 80; omega⟩

/-! ## Staging `x` and `w` -/

abbrev par4 (p : Fin 4) : Fin 2 := ⟨p.val % 2, Nat.mod_lt _ (by decide)⟩
abbrev par8 (p : Fin 8) : Fin 2 := ⟨p.val % 2, Nat.mod_lt _ (by decide)⟩

def xStart (p : Fin 4) : P (F := F) PUnit :=
  Prog.lift (.enqueueDma (xPc p) (.here (sxS (par4 p))) (.dma (semX p)) (View.wordExact_bits rfl) ((View.wordExact_bits rfl).reshape _ _) ⟨Or.inl rfl, trivial⟩)
def xStep (p : Fin 4) : P (F := F) PUnit := do
  Prog.lift (.waitDma2 (semX p) (xPc p) (sxS (par4 p)) (View.wordExact_bits rfl) ((View.wordExact_bits rfl).reshape _ _))
  let v : Vec F S1x64x4096 .f32 ← Prog.lift (.load sxM (rSX (par4 p)).toLoadRect (View.loadsAt_vmem h_S1x64x4096))
  let _u : Vec F S64x4096 .fp8e4m3 ← Prog.lift (.load x8M (rX8 p).toLoadRect (View.loadsAt_vmem h_S64x4096))
  Prog.lift (.store x8M (rX8 p) (k0_pay2 v) Finset.univ
    (View.stores_vmem h_S64x4096 ((Memref.isWhole_whole cc0_scratch0).storeExact_slice rfl _ (packX p)) (fun _ => rfl)) (.inl rfl))
def wStart (p : Fin 8) : P (F := F) PUnit :=
  Prog.lift (.enqueueDma (wPc p) (.here (swS (par8 p))) (.dma (semW p)) (View.wordExact_bits rfl) ((View.wordExact_bits rfl).reshape _ _) ⟨Or.inl rfl, trivial⟩)
def wStep (p : Fin 8) : P (F := F) PUnit := do
  Prog.lift (.waitDma2 (semW p) (wPc p) (swS (par8 p)) (View.wordExact_bits rfl) ((View.wordExact_bits rfl).reshape _ _))
  let v : Vec F S1x512x512 .f32 ← Prog.lift (.load swM (rSW (par8 p)).toLoadRect (View.loadsAt_vmem h_S1x512x512))
  let _u : Vec F S512x512 .fp8e4m3 ← Prog.lift (.load w8M (rW8 p).toLoadRect (View.loadsAt_vmem h_S512x512))
  Prog.lift (.store w8M (rW8 p) (k0_pay6 v) Finset.univ
    (View.stores_vmem h_S512x512 ((Memref.isWhole_whole cc0_scratch1).storeExact_slice rfl _ (packW p)) (fun _ => rfl)) (.inl rfl))

/-! ## The ring -/

/-- The first copies, of the device's own block; -/
def sendX (d : Bool) (j : Fin 2) (n : Dev nD) : P (F := F) PUnit :=
  Prog.lift (.enqueueDma (x8h j) (.remote (Dev.tc n) (pcH d 0 j) (.dma (dmaS false (d, 0, j))) (pcH_sc d 0 j)) (.dma (dmaS true (d, 0, j)))
    (x8h_we j) (pcH_we d 0 j) ⟨⟨rfl, Or.inl rfl⟩, trivial⟩)
/-- a half block passed on from slot `h`; -/
def sendH (d : Bool) (h : Fin 7) (j : Fin 2) (n : Dev nD) : P (F := F) PUnit :=
  Prog.lift (.enqueueDma (pcH d h.castSucc j) (.remote (Dev.tc n) (pcH d h.succ j) (.dma (dmaS false (d, h.succ, j))) (pcH_sc d h.succ j))
    (.dma (dmaS true (d, h.succ, j))) (pcH_we d h.castSucc j) (pcH_we d h.succ j) ⟨⟨rfl, Or.inl rfl⟩, trivial⟩)
/-- a quarter block passed on from slot 6. -/
def sendQ (d : Bool) (j : Fin 2) (n : Dev nD) : P (F := F) PUnit :=
  Prog.lift (.enqueueDma (pcQ d 6 (qk d j)) (.remote (Dev.tc n) (pcQ d 7 (qk d j)) (.dma (dmaS false (d, 7, j))) (pcQ_sc d 7 (qk d j)))
    (.dma (dmaS true (d, 7, j))) (pcQ_we d 6 (qk d j)) (pcQ_we d 7 (qk d j)) ⟨⟨rfl, Or.inl rfl⟩, trivial⟩)

/-- Where a half block of hop `h` is copied from. -/
abbrev fromH (d : Bool) (h : Fin 8) (j : Fin 2) : Memref sig .tc .vmem S128x4096 .fp8e4m3 :=
  if h.val = 0 then x8h j else pcH d ⟨h.val - 1, by omega⟩ j
theorem fromH_we (d : Bool) (h : Fin 8) (j : Fin 2) : (fromH d h j).view.WordExact := by
  unfold fromH; split
  · exact x8h_we j
  · exact pcH_we _ _ _

/-- Waiting for a half block to arrive, for a quarter to arrive; for a half block to have left, for a quarter to have left. -/
def recvH (d : Bool) (h : Fin 8) (j : Fin 2) : P (F := F) PUnit :=
  Prog.lift (.waitDma2 (dmaS true (d, h, j)) (fromH d h j) (pcH d h j) (fromH_we d h j) (pcH_we d h j))
def recvQ (d : Bool) (j : Fin 2) : P (F := F) PUnit :=
  Prog.lift (.waitDma2 (dmaS true (d, 7, j)) (pcQ d 6 (qk d j)) (pcQ d 7 (qk d j)) (pcQ_we _ _ _) (pcQ_we _ _ _))
def leftH (d : Bool) (h : Fin 8) (j : Fin 2) : P (F := F) PUnit :=
  Prog.lift (.waitDma2 (dmaS false (d, h, j)) (pcH d h j) (fromH d h j) (pcH_we d h j) (fromH_we d h j))
def leftQ (d : Bool) (j : Fin 2) : P (F := F) PUnit :=
  Prog.lift (.waitDma2 (dmaS false (d, 7, j)) (pcQ d 7 (qk d j)) (pcQ d 6 (qk d j)) (pcQ_we _ _ _) (pcQ_we _ _ _))

/-! ## The bands of the result -/

def bandStart (s : Fin 2) (o : Fin 2 → ℕ) (ho : ∀ a, o a + S256x512.size a ≤ S4096x512.size a) : P (F := F) PUnit :=
  Prog.lift (.enqueueDma (bdS s) (.here (oPc o ho)) (.dma (semB s)) ((View.wordExact_bits rfl).reshape _ _) (View.wordExact_bits rfl) ⟨Or.inl rfl, trivial⟩)
def bandWait (s : Fin 2) (o : Fin 2 → ℕ) (ho : ∀ a, o a + S256x512.size a ≤ S4096x512.size a) : P (F := F) PUnit :=
  Prog.lift (.waitDma2 (semB s) (bdS s) (oPc o ho) ((View.wordExact_bits rfl).reshape _ _) (View.wordExact_bits rfl))
def loadX : P (F := F) (Vec F S256x4096 .fp8e4m3) :=
  Prog.lift (.load x8M (Rect.unit (s := S256x4096) ![0, 0] S256x4096.size inb_S256x4096_S256x4096_0_0).toLoadRect (View.loadsAt_vmem h_S256x4096))
def loadW : P (F := F) (Vec F S4096x512 .fp8e4m3) :=
  Prog.lift (.load w8M (Rect.unit (s := S4096x512) ![0, 0] S4096x512.size inb_S4096x512_S4096x512_0_0).toLoadRect (View.loadsAt_vmem h_S4096x512))
def loadSlot (d : Bool) (h : Fin 8) : P (F := F) (Vec F S1x256x4096 .fp8e4m3) :=
  Prog.lift (.load (Md d) (Rect.unit (s := S8x256x4096) ![h.val, 0, 0] S1x256x4096.size (inbSlot h)).toLoadRect (View.loadsAt_vmem h_S1x256x4096))
def loadHalf (d : Bool) (j : Fin 2) : P (F := F) (Vec F S1x128x4096 .fp8e4m3) :=
  Prog.lift (.load (Md d) (Rect.unit (s := S8x256x4096) ![7, 128 * j.val, 0] S1x128x4096.size (inb128 7 j)).toLoadRect (View.loadsAt_vmem h_S1x128x4096))
/-- A band put in its slot of the staging buffer (read first to no purpose); a half band likewise. -/
def bandPut (s : Fin 2) (v : Vec F S1x256x512 .f32) : P (F := F) PUnit := do
  let _u : Vec F S1x256x512 .f32 ← Prog.lift (.load bdM (rBD s).toLoadRect (View.loadsAt_vmem h_S1x256x512))
  Prog.lift (.store bdM (rBD s) v Finset.univ (View.stores_vmem_bits_univ h_S1x256x512 rfl) (.inl rfl))
def halfPut (j : Fin 2) (v : Vec F S1x128x512 .f32) : P (F := F) PUnit := do
  let _u : Vec F S1x128x512 .f32 ← Prog.lift (.load bdM (rBH j).toLoadRect (View.loadsAt_vmem h_S1x128x512))
  Prog.lift (.store bdM (rBH j) v Finset.univ (View.stores_vmem_bits_univ h_S1x128x512 rfl) (.inl rfl))

/-- The band of the device's own rows. -/
def bandOwn (s : F .f32) (c : Dev nD) : P (F := F) PUnit := do
  let x ← loadX
  let w ← loadW
  bandPut 0 (k0_pay15 s x w)
  bandStart 0 (k0_off1 c) (k0_off1_inb c)
/-- The product of a slot's rows put in slot `t`, and the band started. -/
def bandOf (s : F .f32) (t : Fin 2) (x : Vec F S1x256x4096 .fp8e4m3) (o : Fin 2 → ℕ) (ho : ∀ a, o a + S256x512.size a ≤ S4096x512.size a) :
    P (F := F) PUnit := do
  let w ← loadW
  bandPut t (k0_pay16 s x w)
  bandStart t o ho

/-- The two bands of slot `h`; the copies out of the staging slots of two bands ago are waited for first. -/
def bands0 (s : F .f32) (c : Dev nD) : P (F := F) PUnit := do
  let x ← loadSlot true 0
  bandOf s 1 x (k0_off2 c (BitVec.ofNat 32 (0 : Fin 7).val)) (k0_off2_inb c 0)
  let y ← loadSlot false 0
  bandWait 0 (k0_off1 c) (k0_off1_inb c)
  bandOf s 0 y (k0_off3 c (BitVec.ofNat 32 (0 : Fin 7).val)) (k0_off3_inb c 0)
def bands (s : F .f32) (c : Dev nD) (h : Fin 6) : P (F := F) PUnit := do
  let x ← loadSlot true h.succ.castSucc
  bandWait 1 (k0_off2 c (BitVec.ofNat 32 h.castSucc.val)) (k0_off2_inb c h.castSucc)
  bandOf s 1 x (k0_off2 c (BitVec.ofNat 32 h.succ.val)) (k0_off2_inb c h.succ)
  let y ← loadSlot false h.succ.castSucc
  bandWait 0 (k0_off3 c (BitVec.ofNat 32 h.castSucc.val)) (k0_off3_inb c h.castSucc)
  bandOf s 0 y (k0_off3 c (BitVec.ofNat 32 h.succ.val)) (k0_off3_inb c h.succ)
/-- The last band, half from each side. -/
def bandLast (s : F .f32) (c : Dev nD) : P (F := F) PUnit := do
  let x ← loadHalf true 0
  let y ← loadHalf false 1
  bandWait 1 (k0_off2 c (BitVec.ofNat 32 (6 : Fin 7).val)) (k0_off2_inb c 6)
  let w ← loadW
  halfPut 0 (k0_pay39 s x w)
  let w' ← loadW
  halfPut 1 (k0_pay39 s y w')
  bandStart 1 (k0_off4 c) (k0_off4_inb c)

/-! ## The phases -/

/-- Receiving slot `h` and passing it on, half by half, both ways. -/
def hop (h : Fin 6) (n₁ n₂ n₃ n₄ : Dev nD) : P (F := F) PUnit := do
  recvH true h.castSucc.castSucc 0
  sendH true h.castSucc 0 n₁
  recvH false h.castSucc.castSucc 0
  sendH false h.castSucc 0 n₂
  recvH true h.castSucc.castSucc 1
  sendH true h.castSucc 1 n₃
  recvH false h.castSucc.castSucc 1
  sendH false h.castSucc 1 n₄
/-- Receiving slot 6 and passing a half of it on, in quarters. -/
def hopSix (n₁ n₂ n₃ n₄ : Dev nD) : P (F := F) PUnit := do
  recvH true 6 0
  sendQ true 0 n₁
  sendQ true 1 n₂
  recvH false 6 0
  recvH true 6 1
  recvH false 6 1
  sendQ false 0 n₃
  sendQ false 1 n₄
def hopSeven : P (F := F) PUnit := do
  recvQ true 0
  recvQ false 0
  recvQ true 1
  recvQ false 1

/-- Everything up to the barrier: the first two pieces of `x` started, the neighbours told, both waited for. -/
def entry (n₁ n₂ : Dev nD) : P (F := F) PUnit := do
  xStart 0
  xStart 1
  semSignalWord n₁ barS 1#32
  semSignalWord n₂ barS 1#32
  semWaitWord barS 2#32
def scale : P (F := F) (F .f32) := do
  let a : Elt F .f32 ← smemLoad aM (Rect.unit (s := S1) ![0] S1.size inb_S1_S1_0) numel1_S1 rfl
  let b : Elt F .f32 ← smemLoad bM (Rect.unit (s := S1) ![0] S1.size inb_S1_S1_0) numel1_S1 rfl
  pure (k0_pay1 a b)
def xPhase (n₁ n₂ n₃ n₄ : Dev nD) : P (F := F) PUnit := do
  xStep 0
  xStart 2
  xStep 1
  xStart 3
  sendX true 0 n₁
  sendX false 0 n₂
  xStep 2
  xStep 3
  sendX true 1 n₃
  sendX false 1 n₄
def wPair (p : Fin 6) : P (F := F) PUnit := do
  wStep p.castSucc.castSucc
  wStart p.succ.succ
def wPhase : P (F := F) PUnit := do
  wStart 0
  wStart 1
  wPair 0
  wPair 1
  wPair 2
  wPair 3
  wPair 4
  wPair 5
  wStep 6
  wStep 7
/-- The halves of a hop waited for to have left. -/
def leftPair (d : Bool) (h : Fin 7) : P (F := F) PUnit := do
  leftH d h.castSucc 0
  leftH d h.castSucc 1
def leftAll (d : Bool) : P (F := F) PUnit := do
  leftPair d 0
  leftPair d 1
  leftPair d 2
  leftPair d 3
  leftPair d 4
  leftPair d 5
  leftPair d 6
  leftQ d 0
  leftQ d 1

def bodyR : P (F := F) PUnit := do
  let c : Dev nD ← Prog.lift .deviceId
  entry ⟨k0_dev1 c, k0_dev1_lt c⟩ ⟨k0_dev2 c, k0_dev2_lt c⟩
  let s ← scale
  xPhase ⟨k0_dev3 c, k0_dev3_lt c⟩ ⟨k0_dev4 c, k0_dev4_lt c⟩ ⟨k0_dev5 c, k0_dev5_lt c⟩ ⟨k0_dev6 c, k0_dev6_lt c⟩
  wPhase
  bandOwn s c
  hop 0 ⟨k0_dev7 c, k0_dev7_lt c⟩ ⟨k0_dev8 c, k0_dev8_lt c⟩ ⟨k0_dev9 c, k0_dev9_lt c⟩ ⟨k0_dev10 c, k0_dev10_lt c⟩
  bands0 s c
  hop 1 ⟨k0_dev11 c, k0_dev11_lt c⟩ ⟨k0_dev12 c, k0_dev12_lt c⟩ ⟨k0_dev13 c, k0_dev13_lt c⟩ ⟨k0_dev14 c, k0_dev14_lt c⟩
  bands s c 0
  hop 2 ⟨k0_dev15 c, k0_dev15_lt c⟩ ⟨k0_dev16 c, k0_dev16_lt c⟩ ⟨k0_dev17 c, k0_dev17_lt c⟩ ⟨k0_dev18 c, k0_dev18_lt c⟩
  bands s c 1
  hop 3 ⟨k0_dev19 c, k0_dev19_lt c⟩ ⟨k0_dev20 c, k0_dev20_lt c⟩ ⟨k0_dev21 c, k0_dev21_lt c⟩ ⟨k0_dev22 c, k0_dev22_lt c⟩
  bands s c 2
  hop 4 ⟨k0_dev23 c, k0_dev23_lt c⟩ ⟨k0_dev24 c, k0_dev24_lt c⟩ ⟨k0_dev25 c, k0_dev25_lt c⟩ ⟨k0_dev26 c, k0_dev26_lt c⟩
  bands s c 3
  hop 5 ⟨k0_dev27 c, k0_dev27_lt c⟩ ⟨k0_dev28 c, k0_dev28_lt c⟩ ⟨k0_dev29 c, k0_dev29_lt c⟩ ⟨k0_dev30 c, k0_dev30_lt c⟩
  bands s c 4
  hopSix ⟨k0_dev31 c, k0_dev31_lt c⟩ ⟨k0_dev32 c, k0_dev32_lt c⟩ ⟨k0_dev33 c, k0_dev33_lt c⟩ ⟨k0_dev34 c, k0_dev34_lt c⟩
  bands s c 5
  hopSeven
  bandLast s c
  leftAll true
  leftAll false
  bandWait 0 (k0_off3 c (BitVec.ofNat 32 (6 : Fin 7).val)) (k0_off3_inb c 6)
  bandWait 1 (k0_off4 c) (k0_off4_inb c)
  pure ⟨⟩

set_option maxRecDepth 100000 in
/-- The printed body is the restated one. -/
theorem body_eq (t : Fin cfg0.N) : Cert.KernelIdeal.Gen.bodyAt0 (F := F) t = bodyR (F := F) := by
  unfold Cert.KernelIdeal.Gen.bodyAt0
  rw [Cert.KernelIdeal.Gen.cc0_body_eq_skeleton]
  rfl

end Cert.Ring
-- ==== Proof.Steps.lean ====
/-
# The ring's single steps

A step of the body as a triple, and the three steps of the ring: a copy to the neighbour, the wait for a piece to arrive,
the wait for a piece to have left.
-/
module

public import proofs.«01_k».proof.Proof.Program

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ

abbrev 𝒱₀ : Variants := Variants.none

/-- From `A` the program `p` of device `c` runs to its end, leaving `B`. -/
def Tr (c : Dev nD) (A : sProp 𝕄) (p : P (F := F) PUnit) (B : sProp 𝕄) : Prop :=
  ∀ Q : PUnit → sProp 𝕄, iprop(A ∗ (B -∗ Q ⟨⟩)) ⊢ wp frame (wpE (defs₀ (F := F)) 𝒱₀ (c : Thread nD τ) none) Set.univ p Q

/-- Two programs one after the other. -/
theorem Tr.seq {c : Dev nD} {A B C : sProp 𝕄} {p q : P (F := F) PUnit} (h : Tr c A p B) (h' : Tr c B q C) :
    Tr c A (p >>= fun _ => q) C := fun Q => by
  rw [wp_bind]
  refine BIBase.Entails.trans ?_ (h _)
  iintro ⟨HA, Hk⟩
  isplitl [HA]; · iexact HA
  iintro HB
  iapply (h' Q)
  isplitl [HB]; · iexact HB
  iexact Hk
/-- What a program does not use is kept. -/
theorem Tr.keep {c : Dev nD} {A B : sProp 𝕄} {p : P (F := F) PUnit} (h : Tr c A p B) (R : sProp 𝕄) :
    Tr c iprop(A ∗ R) p iprop(B ∗ R) := fun Q => by
  iintro ⟨⟨HA, HR⟩, Hk⟩
  iapply (h Q)
  isplitl [HA]; · iexact HA
  iintro HB
  iapply Hk
  isplitl [HB]; · iexact HB
  iexact HR
/-- Stronger before, weaker after. -/
theorem Tr.conseq {c : Dev nD} {A A' B B' : sProp 𝕄} {p : P (F := F) PUnit} (h : Tr c A p B) (hA : A' ⊢ A) (hB : B ⊢ B') :
    Tr c A' p B' := fun Q => by
  iintro ⟨HA, Hk⟩
  iapply (h Q)
  isplitl [HA]; · iapply hA $$ HA
  iintro HB
  iapply Hk
  iapply hB $$ HB

/-! ## What every step may use -/

variable (m : (ℓ : Loc nD τ sig) → Buf (Elt F) ℓ) (K : Dev nD × Cell → ℕ)

/-- The cells' invariants, that every cell's round 0 has begun, and the levels. -/
def recs : sProp 𝕄 :=
  iprop(bigSep (Finset.univ : Finset (Dev nD × Cell)) (fun p => cellInv ER (ringRd m) (K p) (kcell p))
    ∗ bigSep (Finset.univ : Finset (Dev nD × Cell)) (fun p => reached (ER : Emb UB 𝕄) (kcell p) 0) ∗ levAts L lv)
instance recs_persistent : BI.Persistent (recs m K) := by unfold recs; infer_instance

theorem inv_of (p : Dev nD × Cell) :
    bigSep (Finset.univ : Finset (Dev nD × Cell)) (fun p => cellInv (ER : Emb UB 𝕄) (ringRd m) (K p) (kcell p))
      ⊢ cellInv (ER : Emb UB 𝕄) (ringRd m) (K p) (kcell p) := bigSep_elim (Finset.mem_univ p)
theorem reached_of (p : Dev nD × Cell) :
    bigSep (Finset.univ : Finset (Dev nD × Cell)) (fun p => reached (ER : Emb UB 𝕄) (kcell p) 0)
      ⊢ reached (ER : Emb UB 𝕄) (kcell p) 0 := bigSep_elim (Finset.mem_univ p)
theorem inv_at (p : Dev nD × Cell) : recs m K ⊢ cellInv (ER : Emb UB 𝕄) (ringRd m) (K p) (kcell p) := by
  unfold recs; iintro ⟨H, -, -⟩; iapply (inv_of m K p) $$ H
theorem reached_at (p : Dev nD × Cell) : recs m K ⊢ reached (ER : Emb UB 𝕄) (kcell p) 0 := by
  unfold recs; iintro ⟨-, H, -⟩; iapply (reached_of p) $$ H
theorem levs_at : recs m K ⊢ (levAts L lv : sProp 𝕄) := by
  unfold recs; iintro ⟨-, -, H⟩; iexact H

/-- What device `c` owes while the flows `l` are still to be sent, whatever it has waited for. -/
def Ow (c : Dev nD) (l : List Flow) : sProp 𝕄 := iprop(∃ W : Waits sig Unit, owes (c : Thread nD τ) (owed c l) W)

/-- What a send consumes besides its source; what it leaves; what a receive consumes. -/
def sendRes (c : Dev nD) (f : Flow) : sProp 𝕄 :=
  iprop(dutyTok (ER : Emb UB 𝕄) (sendAt c f) 0 false ∗ dutyTok (ER : Emb UB 𝕄) (recvAt (nb f.1 c) f) 0 false
    ∗ atPos (ER : Emb UB 𝕄) (sendAt c f) 0 ∅ 0 ∗ freeP (F := F) (nb f.1 c) f)
def sentRes (c : Dev nD) (f : Flow) : sProp 𝕄 :=
  iprop(cred (tallyAt (sendAt c f) () (Nc f)) ∗ atPos (ER : Emb UB 𝕄) (sendAt c f) 0 ∅ 0)
def recvRes (c : Dev nD) (f : Flow) : sProp 𝕄 :=
  iprop(cred (tallyAt (recvAt c f) () (Nc f)) ∗ atPos (ER : Emb UB 𝕄) (recvAt c f) 0 ∅ 0)

theorem owed_cons (c : Dev nD) (f : Flow) (l : List Flow) : owed c (f :: l) = owed c l + tallyAt (recvAt (nb f.1 c) f) () (Nc f) := rfl

theorem false_mem (c : Dev nD) (k : Bool) (f : Flow) : false ∈ (ringRd (F := F) m).duties (kcell (c, some (k, f))) 0 := by
  rw [duties_cell]; exact Finset.mem_singleton_self _

/-- A copy of a flow's piece to the neighbour. -/
theorem tr_send (c n : Dev nD) (f : Flow) (l : List Flow) {s : Shape} {src dst : Memref sig .tc .vmem s .fp8e4m3}
    {hsc : dst.view.ref.isScScratch = false} {hsrc : src.view.WordExact} {hdst : dst.view.WordExact}
    {hsem : DmaTarget.Typed .vmem (.dma (dmaS true f)) (.remote (Dev.tc n : Thread nD τ) dst (.dma (dmaS false f)) hsc)}
    (hn : n = nb f.1 c) (hN : dst.view.dmaCredit = Nc f) {q : PosShare TreeShare}
    {fs : Buf (Elt F) (src.view.loc (c : Thread nD τ))}
    (hs : srcP m c f = (src.view.loc (c : Thread nD τ) ↦[src.view.set]{q} fs))
    (hd : freeP (F := F) (nb f.1 c) f
      ⊢ iprop(∃ fd, (dst.view.loc ((nb f.1 c : Dev nD) : Thread nD τ) ↦[dst.view.set]{fullShare} fd)))
    (hl : ∀ fd : Buf (Elt F) (dst.view.loc ((nb f.1 c : Dev nD) : Thread nD τ)),
      (dst.view.loc ((nb f.1 c : Dev nD) : Thread nD τ) ↦[dst.view.set]{fullShare} (dst.view.write (Elt F) fd (src.view.read (Elt F) fs) Finset.univ))
        ⊢ landP m (nb f.1 c) f) :
    Tr c iprop(recs m K ∗ Ow c (f :: l) ∗ sendRes c f ∗ srcP m c f)
      (Prog.lift (.enqueueDma src (.remote (Dev.tc n : Thread nD τ) dst (.dma (dmaS false f)) hsc) (.dma (dmaS true f)) hsrc hdst hsem))
      iprop(Ow c l ∗ sentRes c f) := by
  subst hn
  intro Q
  unfold Ow sendRes sentRes Prog.lift
  iintro ⟨⟨#Hrec, ⟨%W, HO⟩, ⟨Ht1, Ht2, Hat, Hfree⟩, Hsrc⟩, Hk⟩
  ihave Hsrc := (Entails.of_eq hs) $$ Hsrc
  ihave Hd := hd $$ Hfree
  icases Hd with ⟨%fd, Hd⟩
  iapply (Rounds.wp_send_pointsTo 𝒱₀ ER (ringRd m) (c : Thread nD τ) none (κ₁ := K (c, some (false, f))) (κ₂ := K (nb f.1 c, some (true, f)))
    (r₁ := 0) (r₂ := 0) (d₁ := false) (d₂ := false) (fd := fd)
    (sS := .dma (dmaS false f)) (sem := .dma (dmaS true f)) (false_mem m c false f) (false_mem m (nb f.1 c) true f)
    () () (Nc f) hN (amount_cell m c (some (false, f)) 0 false) (amount_cell m (nb f.1 c) (some (true, f)) 0 false) (owed c l) (owed_cons c f l) (W := W)
    (by
      show _ ⊢ (ringRd m).payload (kcell (c, some (false, f))) 0 false
      rw [payload_cell]; exact Entails.of_eq hs.symm)
    (by
      show _ ⊢ (ringRd m).payload (kcell (nb f.1 c, some (true, f))) 0 false
      rw [payload_cell]; exact hl fd))
    $$ [Hsrc Hd HO Ht1 Ht2]
  · isplitr; · iapply (inv_at m K (c, some (false, f))); iexact Hrec
    isplitr; · iapply (inv_at m K (nb f.1 c, some (true, f))); iexact Hrec
    isplitl [Hsrc]; · iexact Hsrc
    isplitl [Hd]; · iexact Hd
    isplitl [HO]; · iexact HO
    isplitl [Ht1]; · iexact Ht1
    isplitr; · iapply (reached_at m K (c, some (false, f))); iexact Hrec
    isplitl [Ht2]; · iexact Ht2
    iapply (reached_at m K (nb f.1 c, some (true, f))); iexact Hrec
  iintro ⟨Hc, HO⟩
  rw [wp_ret]
  imodintro
  iapply Hk
  isplitl [HO]; · iexists W; iexact HO
  isplitl [Hc]; · iexact Hc
  iexact Hat

/-- A wait for a flow's one round at one of its two cells: the payload comes with it, and the cell is closed. -/
theorem tr_wait (c : Dev nD) (k : Bool) (f : Flow) (l : List Flow) {s s' : Shape} {srcw : Memref sig .tc .vmem s' .fp8e4m3}
    {dstw : Memref sig .tc .vmem s .fp8e4m3} {hsrc : srcw.view.WordExact} {hdst : dstw.view.WordExact}
    (hN : dstw.view.dmaCredit = Nc f) (hl : ∀ g ∈ l, lvOf (some (some (k, f))) < 2 + g.2.1.val) :
    Tr c iprop(recs m K ∗ Ow c l ∗ cred (tallyAt (kcell (c, some (k, f))) () (Nc f)) ∗ atPos (ER : Emb UB 𝕄) (kcell (c, some (k, f))) 0 ∅ 0)
      (Prog.lift (.waitDma2 (dmaS k f) srcw dstw hsrc hdst))
      iprop(Ow c l ∗ payOf m c (some (some (k, f))) false ∗ semVal (kcell (c, some (k, f))) 0) := by
  intro Q
  unfold Ow Prog.lift
  iintro ⟨⟨#Hrec, ⟨%W, HO⟩, Hc, Hat⟩, Hk⟩
  rw [← hN]
  iapply (Rounds.wp_wait_rest_token 𝒱₀ ER (ringRd m) (c : Thread nD τ) none (κ := K (c, some (k, f))) (sm := .dma (dmaS k f))
      (wpE_waitDma2_eq 𝒱₀ (c : Thread nD τ) none Set.univ) (Set.mem_univ _) () (O := owed c l) (W := W) (R := 0) (m := 0) (T := ∅)
      (by rw [zero_add, hN]; exact (expect_flow m c k f).symm)) $$ [Hc HO Hat]
  · isplitr; · iapply (inv_at m K (c, some (k, f))); iexact Hrec
    isplitl [Hc]; · iexact Hc
    isplitl [HO]; · iexact HO
    isplitr
    · iapply (mayWait_owed c (.dma (dmaS k f)) l (by rw [show decode (.dma (dmaS k f)) = some (some (k, f)) from decode_csem (some (k, f))]; exact hl))
      iapply (levs_at m K); iexact Hrec
    iexact Hat
  iintro ⟨HO, Hat, -, Hpay⟩
  ihave Hp := (Entails.of_eq (show bigSep ((ringRd m).duties ((c : Thread nD τ), SemLoc.dma (dmaS k f)) 0 \ ∅)
    (fun d => (ringRd m).payload ((c : Thread nD τ), SemLoc.dma (dmaS k f)) 0 d) = _ from rest_flow m c k f)) $$ Hpay
  ihave #Hinv := (inv_at m K (c, some (k, f))) $$ Hrec
  imod (Rounds.cell_close ER (ringRd m) (Set.mem_univ (K (c, some (k, f)))) (fun h => h) (R := 0 + 1) (duties_later m _)) $$ [Hat] with Hz
  · isplitr; · iexact Hinv
    iexact Hat
  rw [wp_ret]
  imodintro
  iapply Hk
  isplitl [HO]; · iexists _; iexact HO
  isplitl [Hp]; · iexact Hp
  iexact Hz

end Cert.Ring
-- ==== Proof.Geometry.lean ====
/-
# The moved pieces

Where each copied window lies in its buffer, what it credits, and that copying a piece of what the source buffer holds
puts at the destination what the destination buffer is to hold.
-/
module

public import proofs.«01_k».proof.Proof.Steps

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ

/-! ## Windows -/

/-- An index of a window of `n` rows of slot `h`, read as a matrix, in its buffer. -/
theorem sq_index {A R C n h a : ℕ} {inb} (hq) (x : Fin n) (y : Fin C) :
    let i := (Rect.unit (s := ⟨3, ![A, R, C]⟩) ![h, a, 0] ![1, n, C] inb).emb
      (Shape.reshapeEquiv (s := ⟨3, ![1, n, C]⟩) (s' := ⟨2, ![n, C]⟩) hq (ix2 x y))
    (i 0).val = h ∧ (i 1).val = a + x.val ∧ (i 2).val = y.val := by
  rw [ValueIdx.reshapeEquiv_ix2_1ab]
  refine ⟨?_, ?_, ?_⟩
  · rw [Rect.emb_apply]; show h + 1 * 0 = h; omega
  · rw [Rect.emb_apply]; show a + 1 * x.val = a + x.val; omega
  · rw [Rect.emb_apply]; show 0 + 1 * y.val = y.val; omega
/-- An index of a window of rows of a matrix, in its buffer. -/
theorem row_index {R C n a : ℕ} {inb} (j : (⟨2, ![n, C]⟩ : Shape).Idx) :
    let i := (Rect.unit (s := ⟨2, ![R, C]⟩) ![a, 0] ![n, C] inb).emb j
    (i 0).val = a + (j 0).val ∧ (i 1).val = (j 1).val := by
  refine ⟨?_, ?_⟩
  · rw [Rect.emb_apply]; show a + 1 * (j 0).val = a + (j 0).val; omega
  · rw [Rect.emb_apply]; show 0 + 1 * (j 1).val = (j 1).val; omega

/-- What is written through a window agrees with any contents that agree with it on the window. -/
theorem write_eq_on {sp : Space} {s : Shape} {e : EltTy} (v : View sig .tc sp s e) (f g : v.ty.Contents (Elt F)) (w : s.Idx → Elt F e)
    (h : ∀ j, _root_.cast (congrArg (Elt F) v.elt_eq.symm) (w j) = g (v.emb j)) :
    ∀ i ∈ v.set, v.write (Elt F) f w Finset.univ i = g i := by
  intro i hi
  obtain ⟨j, -, rfl⟩ := Finset.mem_map.1 hi
  rw [View.write_emb_of_mem _ _ (Finset.mem_univ j)]
  exact h j

theorem set_pcH (d : Bool) (h : Fin 8) (j : Fin 2) :
    (match d with | true => (pcH true h j).view.set | false => (pcH false h j).view.set : Finset S8x256x4096.Idx)
      = rg h.val (128 * j.val) (128 * j.val + 128) := by
  cases d
  · exact (Memref.set_view_squeeze _ _).trans ((View.set_slice_whole cc0_scratch3 _).trans set_rg)
  · exact (Memref.set_view_squeeze _ _).trans ((View.set_slice_whole cc0_scratch2 _).trans set_rg)
theorem set_pcQ (d : Bool) (h : Fin 8) (k : Fin 4) :
    (match d with | true => (pcQ true h k).view.set | false => (pcQ false h k).view.set : Finset S8x256x4096.Idx)
      = rg h.val (64 * k.val) (64 * k.val + 64) := by
  cases d
  · exact (Memref.set_view_squeeze _ _).trans ((View.set_slice_whole cc0_scratch3 _).trans set_rg)
  · exact (Memref.set_view_squeeze _ _).trans ((View.set_slice_whole cc0_scratch2 _).trans set_rg)
theorem set_x8h (j : Fin 2) : (x8h j).view.set = rw2 256 4096 (128 * j.val) (128 * j.val + 128) :=
  (View.set_slice_whole cc0_scratch0 _).trans set_rw2

/-! ## Credits -/

theorem credit_pcH (d : Bool) (h : Fin 8) (j : Fin 2) : (pcH d h j).view.dmaCredit = N128 := by cases d <;> rfl
theorem credit_pcQ (d : Bool) (h : Fin 8) (k : Fin 4) : (pcQ d h k).view.dmaCredit = N64 := by cases d <;> rfl
theorem credit_x8h (j : Fin 2) : (x8h j).view.dmaCredit = N128 := rfl
theorem Nc_half (d : Bool) (h : Fin 7) (j : Fin 2) : Nc (d, h.castSucc, j) = N128 :=
  if_neg fun e => by have := congrArg Fin.val e; have h7 : h.val = 7 := this; have := h.isLt; omega
theorem Nc_quarter (d : Bool) (j : Fin 2) : Nc (d, 7, j) = N64 := if_pos rfl

/-! ## Contents -/

variable (m : (ℓ : Loc nD τ sig) → Buf (Elt F) ℓ)

/-- A slot of the neighbour's buffer holds what the slot before it holds here; -/
theorem G_step (d : Bool) (c : Dev nD) (i i' : S8x256x4096.Idx) (h0 : (i' 0).val = (i 0).val + 1) (h1 : (i' 1).val = (i 1).val)
    (h2 : (i' 2).val = (i 2).val) : G m d c i = G m d (nb d c) i' := by
  unfold G
  rw [h0, org_nb, show i' 1 = i 1 from Fin.ext h1, show i' 2 = i 2 from Fin.ext h2]
/-- and its first slot what the narrowed block holds here. -/
theorem G_first (d : Bool) (c : Dev nD) (i : S256x4096.Idx) (i' : S8x256x4096.Idx) (h0 : (i' 0).val = 0) (h1 : (i' 1).val = (i 0).val)
    (h2 : (i' 2).val = (i 1).val) : X m c i = G m d (nb d c) i' := by
  unfold G
  rw [h0, org_nb, org_zero, show i' 1 = i 0 from Fin.ext h1, show i' 2 = i 1 from Fin.ext h2]
  exact congrArg (X m c) (eq_ix2 i)

/-! ## The copies -/

variable (K : Dev nD × Cell → ℕ)

theorem piece_half (d : Bool) (h : Fin 7) (j : Fin 2) : piece (d, h.castSucc, j) = rg h.val (128 * j.val) (128 * j.val + 128) := by
  have e : ¬ (h.castSucc : Fin 8) = 7 := fun e => by have := congrArg Fin.val e; have h7 : h.val = 7 := this; have := h.isLt; omega
  unfold piece lo len; dsimp only; rw [if_neg e, if_neg e]; rfl
theorem piece_quarter (d : Bool) (j : Fin 2) : piece (d, 7, j) = rg 7 (64 * (qk d j).val) (64 * (qk d j).val + 64) := by
  unfold piece lo len; cases d <;> dsimp only [qk] <;> rw [if_pos rfl, if_pos rfl]
  · rw [if_neg Bool.false_ne_true]
    show rg 7 (128 + 64 * j.val) (128 + 64 * j.val + 64) = rg 7 (64 * (2 + j.val)) (64 * (2 + j.val) + 64)
    rw [show 64 * (2 + j.val) = 128 + 64 * j.val by omega]
  · rw [if_pos rfl]; rfl

/-- The first copies. -/
theorem tr_sendX (d : Bool) (j : Fin 2) (c n : Dev nD) (l : List Flow) (hn : n = nb d c) :
    Tr c iprop(recs m K ∗ Ow c ((d, 0, j) :: l) ∗ sendRes c (d, 0, j) ∗ srcP m c (d, 0, j)) (sendX (F := F) d j n)
      iprop(Ow c l ∗ sentRes c (d, 0, j)) := by
  have hs : x8Piece (d, 0, j) = (x8h j).view.set := (set_x8h j).symm
  have hp := (piece_half d 0 j).trans (set_pcH d 0 j).symm
  have hc (i : S128x4096.Idx) (i' : S8x256x4096.Idx) (h0 : (i' 0).val = 0) (h1 : (i' 1).val = 128 * j.val + (i 0).val) (h2 : (i' 2).val = (i 1).val) :
      X m c ((x8h j).view.emb i) = G m d (nb d c) i' := by
    obtain ⟨g0, g1⟩ := row_index (R := 256) (C := 4096) (n := 128) (a := 128 * j.val) (inb := inb8 j) i
    exact G_first m d c _ _ h0 (h1.trans g0.symm) (h2.trans g1.symm)
  have hi (i : S128x4096.Idx) := sq_index (A := 8) (R := 256) (C := 4096) (n := 128) (h := 0) (a := 128 * j.val) (inb := inb128 0 j)
    squeezes_S1x128x4096_S128x4096.numel_eq (i 0) (i 1)
  unfold sendX
  refine tr_send m K c n (d, 0, j) l hn ((credit_pcH _ _ _).trans (Nc_half d 0 j).symm) (q := x8Share d) (fs := X m c) ?_ ?_ ?_
  · show (if (0 : ℕ) = 0 then x8P c (x8Share d) (x8Piece (d, 0, j)) (X m c) else _) = _
    rw [if_pos rfl, hs]; rfl
  · unfold freeP; rw [show piece (d, 0, j) = _ from hp]
    cases d <;> exact BI.Entails.refl _
  · intro fd
    unfold landP; rw [show piece (d, 0, j) = _ from hp]
    cases d
    · refine Entails.of_eq (pointsTo_congr (write_eq_on (pcH false 0 j).view fd (G m false (nb false c)) _ fun i => ?_))
      rw [eq_ix2 i]
      exact hc (ix2 (i 0) (i 1)) _ (hi i).1 (hi i).2.1 (hi i).2.2
    · refine Entails.of_eq (pointsTo_congr (write_eq_on (pcH true 0 j).view fd (G m true (nb true c)) _ fun i => ?_))
      rw [eq_ix2 i]
      exact hc (ix2 (i 0) (i 1)) _ (hi i).1 (hi i).2.1 (hi i).2.2

/-- A half block passed on. -/
theorem tr_sendH (d : Bool) (h : Fin 6) (j : Fin 2) (c n : Dev nD) (l : List Flow) (hn : n = nb d c) :
    Tr c iprop(recs m K ∗ Ow c ((d, h.castSucc.succ, j) :: l) ∗ sendRes c (d, h.castSucc.succ, j)
        ∗ land d c fullShare.left (rg h.val (128 * j.val) (128 * j.val + 128)) (G m d c)) (sendH (F := F) d h.castSucc j n)
      iprop(Ow c l ∗ sentRes c (d, h.castSucc.succ, j)) := by
  have hp := (piece_half d h.succ j).trans (set_pcH d h.succ.castSucc j).symm
  have hs := (set_pcH d h.castSucc.castSucc j).symm
  have hf : srcP m c (d, h.castSucc.succ, j) = land d c fullShare.left (rg h.val (128 * j.val) (128 * j.val + 128)) (G m d c) := by
    have hpc : piece (d, h.castSucc.succ, j) = rg (h.val + 1) (128 * j.val) (128 * j.val + 128) := piece_half d h.succ j
    have h7 : ¬ (h.castSucc.succ : Fin 8) = 7 := fun e => by have := congrArg Fin.val e; have h7 : h.val + 1 = 7 := this; have := h.isLt; omega
    unfold srcP fromPiece lo len
    dsimp only
    rw [if_neg (show ¬ (h.castSucc.succ : Fin 8).val = 0 from Nat.succ_ne_zero _), if_neg h7, if_neg h7]
    rfl
  have hi (i : S128x4096.Idx) := sq_index (A := 8) (R := 256) (C := 4096) (n := 128) (h := h.val + 1) (a := 128 * j.val)
    (inb := inb128 h.castSucc.succ j) squeezes_S1x128x4096_S128x4096.numel_eq (i 0) (i 1)
  have hi' (i : S128x4096.Idx) := sq_index (A := 8) (R := 256) (C := 4096) (n := 128) (h := h.val) (a := 128 * j.val)
    (inb := inb128 h.castSucc.castSucc j) squeezes_S1x128x4096_S128x4096.numel_eq (i 0) (i 1)
  rw [← hf]
  unfold sendH
  cases d
  · refine tr_send m K c n (false, h.castSucc.succ, j) l hn ((credit_pcH _ _ _).trans (Nc_half false h.succ j).symm) (q := fullShare.left)
      (fs := G m false c) ?_ ?_ ?_
    · rw [hf, show rg h.val (128 * j.val) (128 * j.val + 128) = _ from hs]; rfl
    · unfold freeP; rw [show piece (false, h.castSucc.succ, j) = _ from hp]; exact BI.Entails.refl _
    · intro fd
      unfold landP; rw [show piece (false, h.castSucc.succ, j) = _ from hp]
      refine Entails.of_eq (pointsTo_congr (write_eq_on (pcH false h.castSucc.succ j).view fd (G m false (nb false c)) _ fun i => ?_))
      rw [eq_ix2 i]
      exact G_step m false c _ _ ((hi i).1.trans (congrArg (· + 1) (hi' i).1.symm)) ((hi i).2.1.trans (hi' i).2.1.symm) ((hi i).2.2.trans (hi' i).2.2.symm)
  · refine tr_send m K c n (true, h.castSucc.succ, j) l hn ((credit_pcH _ _ _).trans (Nc_half true h.succ j).symm) (q := fullShare.left)
      (fs := G m true c) ?_ ?_ ?_
    · rw [hf, show rg h.val (128 * j.val) (128 * j.val + 128) = _ from hs]; rfl
    · unfold freeP; rw [show piece (true, h.castSucc.succ, j) = _ from hp]; exact BI.Entails.refl _
    · intro fd
      unfold landP; rw [show piece (true, h.castSucc.succ, j) = _ from hp]
      refine Entails.of_eq (pointsTo_congr (write_eq_on (pcH true h.castSucc.succ j).view fd (G m true (nb true c)) _ fun i => ?_))
      rw [eq_ix2 i]
      exact G_step m true c _ _ ((hi i).1.trans (congrArg (· + 1) (hi' i).1.symm)) ((hi i).2.1.trans (hi' i).2.1.symm) ((hi i).2.2.trans (hi' i).2.2.symm)

/-- A quarter block passed on. -/
theorem tr_sendQ (d : Bool) (j : Fin 2) (c n : Dev nD) (l : List Flow) (hn : n = nb d c) :
    Tr c iprop(recs m K ∗ Ow c ((d, 7, j) :: l) ∗ sendRes c (d, 7, j)
        ∗ land d c fullShare.left (rg 6 (64 * (qk d j).val) (64 * (qk d j).val + 64)) (G m d c)) (sendQ (F := F) d j n)
      iprop(Ow c l ∗ sentRes c (d, 7, j)) := by
  have hp := (piece_quarter d j).trans (set_pcQ d 7 (qk d j)).symm
  have hs := (set_pcQ d 6 (qk d j)).symm
  have hf : srcP m c (d, 7, j) = land d c fullShare.left (rg 6 (64 * (qk d j).val) (64 * (qk d j).val + 64)) (G m d c) := by
    have hq := piece_quarter d j
    show land d c fullShare.left (rg 6 (lo (d, 7, j)) (lo (d, 7, j) + len (d, 7, j))) (G m d c) = _
    have e1 : lo (d, 7, j) = 64 * (qk d j).val := by
      unfold lo; cases d
      · show 128 + 64 * j.val = 64 * (2 + j.val); omega
      · rfl
    rw [e1]; rfl
  have hi (i : S64x4096.Idx) := sq_index (A := 8) (R := 256) (C := 4096) (n := 64) (h := 7) (a := 64 * (qk d j).val)
    (inb := inb64 7 (qk d j)) squeezes_S1x64x4096_S64x4096.numel_eq (i 0) (i 1)
  have hi' (i : S64x4096.Idx) := sq_index (A := 8) (R := 256) (C := 4096) (n := 64) (h := 6) (a := 64 * (qk d j).val)
    (inb := inb64 6 (qk d j)) squeezes_S1x64x4096_S64x4096.numel_eq (i 0) (i 1)
  rw [← hf]
  unfold sendQ
  cases d
  · refine tr_send m K c n (false, 7, j) l hn ((credit_pcQ _ _ _).trans (Nc_quarter false j).symm) (q := fullShare.left)
      (fs := G m false c) ?_ ?_ ?_
    · rw [hf, show rg 6 (64 * (qk false j).val) (64 * (qk false j).val + 64) = _ from hs]; rfl
    · unfold freeP; rw [show piece (false, 7, j) = _ from hp]; exact BI.Entails.refl _
    · intro fd
      unfold landP; rw [show piece (false, 7, j) = _ from hp]
      refine Entails.of_eq (pointsTo_congr (write_eq_on (pcQ false 7 (qk false j)).view fd (G m false (nb false c)) _ fun i => ?_))
      rw [eq_ix2 i]
      exact G_step m false c _ _ ((hi i).1.trans (congrArg (· + 1) (hi' i).1.symm)) ((hi i).2.1.trans (hi' i).2.1.symm) ((hi i).2.2.trans (hi' i).2.2.symm)
  · refine tr_send m K c n (true, 7, j) l hn ((credit_pcQ _ _ _).trans (Nc_quarter true j).symm) (q := fullShare.left)
      (fs := G m true c) ?_ ?_ ?_
    · rw [hf, show rg 6 (64 * (qk true j).val) (64 * (qk true j).val + 64) = _ from hs]; rfl
    · unfold freeP; rw [show piece (true, 7, j) = _ from hp]; exact BI.Entails.refl _
    · intro fd
      unfold landP; rw [show piece (true, 7, j) = _ from hp]
      refine Entails.of_eq (pointsTo_congr (write_eq_on (pcQ true 7 (qk true j)).view fd (G m true (nb true c)) _ fun i => ?_))
      rw [eq_ix2 i]
      exact G_step m true c _ _ ((hi i).1.trans (congrArg (· + 1) (hi' i).1.symm)) ((hi i).2.1.trans (hi' i).2.1.symm) ((hi i).2.2.trans (hi' i).2.2.symm)

/-! ## The waits -/

theorem tr_recvH (d : Bool) (h : Fin 7) (j : Fin 2) (c : Dev nD) (l : List Flow) (hl : ∀ g ∈ l, 2 + h.val < 2 + g.2.1.val) :
    Tr c iprop(recs m K ∗ Ow c l ∗ recvRes c (d, h.castSucc, j)) (recvH (F := F) d h.castSucc j)
      iprop(Ow c l ∗ land d c fullShare (rg h.val (128 * j.val) (128 * j.val + 128)) (G m d c) ∗ semVal (recvAt c (d, h.castSucc, j)) 0) := by
  have := tr_wait m K c true (d, h.castSucc, j) l (srcw := fromH d h.castSucc j) (hsrc := fromH_we d h.castSucc j) (hdst := pcH_we d h.castSucc j)
    ((credit_pcH d h.castSucc j).trans (Nc_half d h j).symm) hl
  unfold payOf landP at this
  dsimp only at this
  rw [piece_half] at this
  unfold recvRes recvH
  exact this
theorem tr_recvQ (d : Bool) (j : Fin 2) (c : Dev nD) :
    Tr c iprop(recs m K ∗ Ow c [] ∗ recvRes c (d, 7, j)) (recvQ (F := F) d j)
      iprop(Ow c [] ∗ land d c fullShare (rg 7 (64 * (qk d j).val) (64 * (qk d j).val + 64)) (G m d c) ∗ semVal (recvAt c (d, 7, j)) 0) := by
  have := tr_wait m K c true (d, 7, j) [] (srcw := pcQ d 6 (qk d j)) (hsrc := pcQ_we _ _ _) (hdst := pcQ_we d 7 (qk d j))
    ((credit_pcQ d 7 (qk d j)).trans (Nc_quarter d j).symm) (fun g hg => absurd hg (List.not_mem_nil))
  unfold payOf landP at this
  dsimp only at this
  rw [piece_quarter] at this
  unfold recvRes recvQ
  exact this
theorem credit_fromH (d : Bool) (h : Fin 8) (j : Fin 2) : (fromH d h j).view.dmaCredit = N128 := by
  unfold fromH; split
  · exact credit_x8h j
  · exact credit_pcH _ _ _
theorem tr_leftH (d : Bool) (h : Fin 7) (j : Fin 2) (c : Dev nD) :
    Tr c iprop(recs m K ∗ Ow c [] ∗ sentRes c (d, h.castSucc, j)) (leftH (F := F) d h.castSucc j)
      iprop(Ow c [] ∗ srcP m c (d, h.castSucc, j) ∗ semVal (sendAt c (d, h.castSucc, j)) 0) := by
  unfold sentRes leftH
  exact tr_wait m K c false (d, h.castSucc, j) [] (srcw := pcH d h.castSucc j) (hsrc := pcH_we d h.castSucc j) (hdst := fromH_we d h.castSucc j)
    ((credit_fromH d h.castSucc j).trans (Nc_half d h j).symm) (fun g hg => absurd hg (List.not_mem_nil))
theorem tr_leftQ (d : Bool) (j : Fin 2) (c : Dev nD) :
    Tr c iprop(recs m K ∗ Ow c [] ∗ sentRes c (d, 7, j)) (leftQ (F := F) d j)
      iprop(Ow c [] ∗ srcP m c (d, 7, j) ∗ semVal (sendAt c (d, 7, j)) 0) := by
  unfold sentRes leftQ
  exact tr_wait m K c false (d, 7, j) [] (srcw := pcQ d 7 (qk d j)) (hsrc := pcQ_we _ _ _) (hdst := pcQ_we d 6 (qk d j))
    ((credit_pcQ d 6 (qk d j)).trans (Nc_quarter d j).symm) (fun g hg => absurd hg (List.not_mem_nil))

end Cert.Ring
-- ==== Proof.Hops.lean ====
/-
# The hops

Each hop as one triple: the four pieces of a slot received, and passed on at half their share, the other half kept for
the product.
-/
module

public import proofs.«01_k».proof.Proof.Geometry

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ

theorem eq_of_both {A B : sProp 𝕄} (h : A ⊢ B) (h' : B ⊢ A) : A = B := equiv_iff.mp ⟨h, h'⟩

theorem assoc_eq (A B C : sProp 𝕄) : iprop((A ∗ B) ∗ C) = iprop(A ∗ B ∗ C) := eq_of_both sep_assoc.1 sep_assoc.2

/-- A triple used as the first step of a program, -/
theorem Tr.step {c : Dev nD} {A B : sProp 𝕄} {p : P (F := F) PUnit} (h : Tr c A p B) {α : Type} (k : PUnit → P (F := F) α)
    (Q : α → sProp 𝕄) :
    A ⊢ iprop((B -∗ wp frame (wpE (defs₀ (F := F)) 𝒱₀ (c : Thread nD τ) none) Set.univ (k ⟨⟩) Q)
      -∗ wp frame (wpE (defs₀ (F := F)) 𝒱₀ (c : Thread nD τ) none) Set.univ (p >>= k) Q) := by
  rw [wp_bind]
  iintro HA Hk
  iapply (h _)
  isplitl [HA]; · iexact HA
  iintro HB
  iapply Hk; iexact HB
/-- and as its last. -/
theorem Tr.last {c : Dev nD} {A B : sProp 𝕄} {p : P (F := F) PUnit} (h : Tr c A p B) (Q : PUnit → sProp 𝕄) :
    A ⊢ iprop((B -∗ Q ⟨⟩) -∗ wp frame (wpE (defs₀ (F := F)) 𝒱₀ (c : Thread nD τ) none) Set.univ p Q) := by
  iintro HA Hk
  iapply (h _)
  isplitl [HA]; · iexact HA
  iexact Hk

/-! ## Landed pieces: halves of their share, and their unions -/

theorem land_split (d : Bool) (c : Dev nD) (S : Finset S8x256x4096.Idx) (f : FVec F S8x256x4096 .fp8e4m3) :
    land d c fullShare S f ⊢ iprop(land d c fullShare.left S f ∗ land d c fullShare.right S f) := by
  cases d
  · exact (pointsTo_share (PosShare.mem_left_op_right fullShare)).1
  · exact (pointsTo_share (PosShare.mem_left_op_right fullShare)).1
theorem land_merge (d : Bool) (c : Dev nD) (S : Finset S8x256x4096.Idx) (f : FVec F S8x256x4096 .fp8e4m3) :
    iprop(land d c fullShare.left S f ∗ land d c fullShare.right S f) ⊢ land d c fullShare S f := by
  cases d
  · exact (pointsTo_share (PosShare.mem_left_op_right fullShare)).2
  · exact (pointsTo_share (PosShare.mem_left_op_right fullShare)).2
theorem rg_disj {h a b e : ℕ} : Disjoint (rg h a b) (rg h b e) := by
  rw [Finset.disjoint_left]; intro i hi hj; rw [mem_rg] at hi hj; omega
theorem rg_union {h a b e : ℕ} (hab : a ≤ b) (hbe : b ≤ e) : rg h a b ∪ rg h b e = rg h a e := by
  ext i; rw [Finset.mem_union, mem_rg, mem_rg, mem_rg]; omega
theorem land_union (d : Bool) (c : Dev nD) (q : PosShare TreeShare) {S T U : Finset S8x256x4096.Idx} (f : FVec F S8x256x4096 .fp8e4m3)
    (hd : Disjoint S T) (hu : S ∪ T = U) : land d c q U f = iprop(land d c q S f ∗ land d c q T f) := by
  subst hu
  cases d
  · exact eq_of_both (pointsTo_union hd).1 (pointsTo_union hd).2
  · exact eq_of_both (pointsTo_union hd).1 (pointsTo_union hd).2
theorem land_join (d : Bool) (c : Dev nD) (q : PosShare TreeShare) {h a b e : ℕ} (f : FVec F S8x256x4096 .fp8e4m3) (hab : a ≤ b) (hbe : b ≤ e) :
    iprop(land d c q (rg h a b) f ∗ land d c q (rg h b e) f) = land d c q (rg h a e) f :=
  (land_union d c q f rg_disj (rg_union hab hbe)).symm

/-! ## The order of the sends -/

/-- The flows still to be sent before hop `n`. -/
def rem (n : ℕ) : List Flow := sends.drop (4 * n)
theorem rem_hop : ∀ h : Fin 7, rem h.val = (true, h.castSucc, 0) :: (false, h.castSucc, 0) :: (true, h.castSucc, 1) :: (false, h.castSucc, 1) :: rem (h.val + 1) := by
  decide
theorem rem_seven : rem 7 = [(true, 7, 0), (true, 7, 1), (false, 7, 0), (false, 7, 1)] := by decide
theorem rem_later : ∀ h : Fin 7, ∀ g ∈ rem (h.val + 1), 2 + h.val < 2 + g.2.1.val := by decide

/-- A resource of each of the four flows of a hop. -/
def S4 (Φ : Flow → sProp 𝕄) (h : Fin 8) : sProp 𝕄 :=
  iprop(Φ (true, h, 0) ∗ Φ (false, h, 0) ∗ Φ (true, h, 1) ∗ Φ (false, h, 1))
theorem bigSep_flows (Φ : Flow → sProp 𝕄) : bigSep Finset.univ Φ
    = iprop(S4 Φ 0 ∗ S4 Φ 1 ∗ S4 Φ 2 ∗ S4 Φ 3 ∗ S4 Φ 4 ∗ S4 Φ 5 ∗ S4 Φ 6 ∗ S4 Φ 7) := by
  rw [bigSep_univ_eq_bigSepL recvs recvs_univ recvs_nodup Φ]
  show bigSepL [(true, 0, 0), (false, 0, 0), (true, 0, 1), (false, 0, 1), (true, 1, 0), (false, 1, 0), (true, 1, 1), (false, 1, 1),
    (true, 2, 0), (false, 2, 0), (true, 2, 1), (false, 2, 1), (true, 3, 0), (false, 3, 0), (true, 3, 1), (false, 3, 1),
    (true, 4, 0), (false, 4, 0), (true, 4, 1), (false, 4, 1), (true, 5, 0), (false, 5, 0), (true, 5, 1), (false, 5, 1),
    (true, 6, 0), (false, 6, 0), (true, 6, 1), (false, 6, 1), (true, 7, 0), (false, 7, 0), (true, 7, 1), (false, 7, 1)] Φ = _
  unfold S4
  simp only [bigSepL_cons_cons, bigSepL_singleton, assoc_eq]
  rfl

/-- The same, by direction. -/
def D2 (Φ : Flow → sProp 𝕄) (d : Bool) (h : Fin 8) : sProp 𝕄 := iprop(Φ (d, h, 0) ∗ Φ (d, h, 1))
def D8 (Φ : Flow → sProp 𝕄) (d : Bool) : sProp 𝕄 :=
  iprop(D2 Φ d 0 ∗ D2 Φ d 1 ∗ D2 Φ d 2 ∗ D2 Φ d 3 ∗ D2 Φ d 4 ∗ D2 Φ d 5 ∗ D2 Φ d 6 ∗ D2 Φ d 7)
theorem bigSep_flows_dir (Φ : Flow → sProp 𝕄) : bigSep Finset.univ Φ = iprop(D8 Φ true ∗ D8 Φ false) := by
  rw [bigSep_univ_eq_bigSepL drains drains_univ drains_nodup Φ]
  show bigSepL [(true, 0, 0), (true, 0, 1), (true, 1, 0), (true, 1, 1), (true, 2, 0), (true, 2, 1), (true, 3, 0), (true, 3, 1),
    (true, 4, 0), (true, 4, 1), (true, 5, 0), (true, 5, 1), (true, 6, 0), (true, 6, 1), (true, 7, 0), (true, 7, 1),
    (false, 0, 0), (false, 0, 1), (false, 1, 0), (false, 1, 1), (false, 2, 0), (false, 2, 1), (false, 3, 0), (false, 3, 1),
    (false, 4, 0), (false, 4, 1), (false, 5, 0), (false, 5, 1), (false, 6, 0), (false, 6, 1), (false, 7, 0), (false, 7, 1)] Φ = _
  unfold D8 D2
  simp only [bigSepL_cons_cons, bigSepL_singleton, assoc_eq]
  rfl

/-! ## The hops -/

variable (m : (ℓ : Loc nD τ sig) → Buf (Elt F) ℓ) (K : Dev nD × Cell → ℕ)

/-- A slot of a landing buffer, at the share kept for the product. -/
def slotP (d : Bool) (c : Dev nD) (h : ℕ) : sProp 𝕄 := land d c fullShare.right (rg h 0 256) (G m d c)
/-- A receive cell at rest. -/
def closedR (c : Dev nD) (f : Flow) : sProp 𝕄 := semVal (recvAt c f) 0

theorem slot_join (d : Bool) (c : Dev nD) (h : ℕ) :
    iprop(land d c fullShare.right (rg h (128 * (0 : Fin 2).val) (128 * (0 : Fin 2).val + 128)) (G m d c)
      ∗ land d c fullShare.right (rg h (128 * (1 : Fin 2).val) (128 * (1 : Fin 2).val + 128)) (G m d c)) ⊢ slotP m d c h :=
  Entails.of_eq (land_join d c fullShare.right (h := h) (a := 0) (b := 128) (e := 256) (G m d c) (by decide) (by decide))

/-- A hop: the four pieces of slot `h` received and passed on. -/
theorem tr_hop (h : Fin 6) (c n₁ n₂ n₃ n₄ : Dev nD) (h₁ : n₁ = nxt c) (h₂ : n₂ = prv c) (h₃ : n₃ = nxt c) (h₄ : n₄ = prv c) :
    Tr c iprop(recs m K ∗ Ow c (rem (h.val + 1)) ∗ S4 (sendRes c) h.castSucc.succ ∗ S4 (recvRes c) h.castSucc.castSucc)
      (hop (F := F) h n₁ n₂ n₃ n₄)
      iprop(Ow c (rem (h.val + 2)) ∗ S4 (sentRes c) h.castSucc.succ ∗ S4 (closedR c) h.castSucc.castSucc
        ∗ slotP m true c h.val ∗ slotP m false c h.val) := by
  intro Q
  have hr := rem_hop h.succ
  have hl := rem_later h.castSucc
  rw [show rem (h.succ : Fin 7).val = rem (h.val + 1) from rfl] at hr
  rw [show rem ((h.castSucc : Fin 7).val + 1) = rem (h.val + 1) from rfl, hr] at hl
  rw [hr]
  unfold hop S4 closedR
  iintro ⟨⟨#Hrec, HO, ⟨Hs1, Hs2, Hs3, Hs4⟩, Hr1, Hr2, Hr3, Hr4⟩, Hk⟩
  iapply ((tr_recvH m K true h.castSucc 0 c _ hl).step) $$ [HO Hr1]
  · isplitr; · iexact Hrec
    isplitl [HO]; · iexact HO
    iexact Hr1
  iintro ⟨HO, Hp, Hz1⟩
  ihave Hp := (land_split _ _ _ _) $$ Hp
  icases Hp with ⟨Hp, Hkp1⟩
  iapply ((tr_sendH m K true h 0 c n₁ _ h₁).step) $$ [HO Hs1 Hp]
  · isplitr; · iexact Hrec
    isplitl [HO]; · iexact HO
    isplitl [Hs1]; · iexact Hs1
    iexact Hp
  iintro ⟨HO, Ht1⟩
  iapply ((tr_recvH m K false h.castSucc 0 c _ (fun g hg => hl g (List.mem_cons_of_mem _ hg))).step) $$ [HO Hr2]
  · isplitr; · iexact Hrec
    isplitl [HO]; · iexact HO
    iexact Hr2
  iintro ⟨HO, Hp, Hz2⟩
  ihave Hp := (land_split _ _ _ _) $$ Hp
  icases Hp with ⟨Hp, Hkp2⟩
  iapply ((tr_sendH m K false h 0 c n₂ _ h₂).step) $$ [HO Hs2 Hp]
  · isplitr; · iexact Hrec
    isplitl [HO]; · iexact HO
    isplitl [Hs2]; · iexact Hs2
    iexact Hp
  iintro ⟨HO, Ht2⟩
  iapply ((tr_recvH m K true h.castSucc 1 c _ (fun g hg => hl g (List.mem_cons_of_mem _ (List.mem_cons_of_mem _ hg)))).step) $$ [HO Hr3]
  · isplitr; · iexact Hrec
    isplitl [HO]; · iexact HO
    iexact Hr3
  iintro ⟨HO, Hp, Hz3⟩
  ihave Hp := (land_split _ _ _ _) $$ Hp
  icases Hp with ⟨Hp, Hkp3⟩
  iapply ((tr_sendH m K true h 1 c n₃ _ h₃).step) $$ [HO Hs3 Hp]
  · isplitr; · iexact Hrec
    isplitl [HO]; · iexact HO
    isplitl [Hs3]; · iexact Hs3
    iexact Hp
  iintro ⟨HO, Ht3⟩
  iapply ((tr_recvH m K false h.castSucc 1 c _
    (fun g hg => hl g (List.mem_cons_of_mem _ (List.mem_cons_of_mem _ (List.mem_cons_of_mem _ hg))))).step) $$ [HO Hr4]
  · isplitr; · iexact Hrec
    isplitl [HO]; · iexact HO
    iexact Hr4
  iintro ⟨HO, Hp, Hz4⟩
  ihave Hp := (land_split _ _ _ _) $$ Hp
  icases Hp with ⟨Hp, Hkp4⟩
  iapply ((tr_sendH m K false h 1 c n₄ _ h₄).last) $$ [HO Hs4 Hp]
  · isplitr; · iexact Hrec
    isplitl [HO]; · iexact HO
    isplitl [Hs4]; · iexact Hs4
    iexact Hp
  iintro ⟨HO, Ht4⟩
  iapply Hk
  isplitl [HO]; · iexact HO
  isplitl [Ht1 Ht2 Ht3 Ht4]
  · isplitl [Ht1]; · iexact Ht1
    isplitl [Ht2]; · iexact Ht2
    isplitl [Ht3]; · iexact Ht3
    iexact Ht4
  isplitl [Hz1 Hz2 Hz3 Hz4]
  · isplitl [Hz1]; · iexact Hz1
    isplitl [Hz2]; · iexact Hz2
    isplitl [Hz3]; · iexact Hz3
    iexact Hz4
  isplitl [Hkp1 Hkp3]
  · iapply (slot_join m true c h.val)
    isplitl [Hkp1]; · iexact Hkp1
    iexact Hkp3
  · iapply (slot_join m false c h.val)
    isplitl [Hkp2]; · iexact Hkp2
    iexact Hkp4

theorem quarters (d : Bool) (j : Fin 2) (c : Dev nD) :
    land d c fullShare.left (rg (6 : Fin 7).val (128 * j.val) (128 * j.val + 128)) (G m d c)
      ⊢ iprop(land d c fullShare.left (rg 6 (128 * j.val) (128 * j.val + 64)) (G m d c)
        ∗ land d c fullShare.left (rg 6 (128 * j.val + 64) (128 * j.val + 128)) (G m d c)) :=
  Entails.of_eq (land_join d c fullShare.left (h := 6) (a := 128 * j.val) (b := 128 * j.val + 64) (e := 128 * j.val + 128) (G m d c)
    (by omega) (by omega)).symm

/-- The halves of slot 6 that are not passed on. -/
def restSix (c : Dev nD) : sProp 𝕄 :=
  iprop(land true c fullShare.left (rg 6 128 256) (G m true c) ∗ land false c fullShare.left (rg 6 0 128) (G m false c))

theorem tr_hopSix (c n₁ n₂ n₃ n₄ : Dev nD) (h₁ : n₁ = nxt c) (h₂ : n₂ = nxt c) (h₃ : n₃ = prv c) (h₄ : n₄ = prv c) :
    Tr c iprop(recs m K ∗ Ow c (rem 7) ∗ S4 (sendRes c) 7 ∗ S4 (recvRes c) 6)
      (hopSix (F := F) n₁ n₂ n₃ n₄)
      iprop(Ow c [] ∗ S4 (sentRes c) 7 ∗ S4 (closedR c) 6 ∗ slotP m true c 6 ∗ slotP m false c 6 ∗ restSix m c) := by
  intro Q
  have hl := rem_later 6
  rw [show rem ((6 : Fin 7).val + 1) = rem 7 from rfl, rem_seven] at hl
  rw [rem_seven]
  unfold hopSix S4 closedR
  iintro ⟨⟨#Hrec, HO, ⟨Hs1, Hs2, Hs3, Hs4⟩, Hr1, Hr2, Hr3, Hr4⟩, Hk⟩
  iapply ((tr_recvH m K true 6 0 c _ hl).step) $$ [HO Hr1]
  · isplitr; · iexact Hrec
    isplitl [HO]; · iexact HO
    iexact Hr1
  iintro ⟨HO, Hp, Hz1⟩
  ihave Hp := (land_split _ _ _ _) $$ Hp
  icases Hp with ⟨Hp, Hkp1⟩
  ihave Hp := (quarters m true 0 c) $$ Hp
  icases Hp with ⟨Hpa, Hpb⟩
  iapply ((tr_sendQ m K true 0 c n₁ _ h₁).step) $$ [HO Hs1 Hpa]
  · isplitr; · iexact Hrec
    isplitl [HO]; · iexact HO
    isplitl [Hs1]; · iexact Hs1
    iexact Hpa
  iintro ⟨HO, Ht1⟩
  iapply ((tr_sendQ m K true 1 c n₂ _ h₂).step) $$ [HO Hs3 Hpb]
  · isplitr; · iexact Hrec
    isplitl [HO]; · iexact HO
    isplitl [Hs3]; · iexact Hs3
    iexact Hpb
  iintro ⟨HO, Ht3⟩
  iapply ((tr_recvH m K false 6 0 c _ (fun g hg => hl g (List.mem_cons_of_mem _ (List.mem_cons_of_mem _ hg)))).step) $$ [HO Hr2]
  · isplitr; · iexact Hrec
    isplitl [HO]; · iexact HO
    iexact Hr2
  iintro ⟨HO, Hp, Hz2⟩
  ihave Hp := (land_split _ _ _ _) $$ Hp
  icases Hp with ⟨HlF, Hkp2⟩
  iapply ((tr_recvH m K true 6 1 c _ (fun g hg => hl g (List.mem_cons_of_mem _ (List.mem_cons_of_mem _ hg)))).step) $$ [HO Hr3]
  · isplitr; · iexact Hrec
    isplitl [HO]; · iexact HO
    iexact Hr3
  iintro ⟨HO, Hp, Hz3⟩
  ihave Hp := (land_split _ _ _ _) $$ Hp
  icases Hp with ⟨HlT, Hkp3⟩
  iapply ((tr_recvH m K false 6 1 c _ (fun g hg => hl g (List.mem_cons_of_mem _ (List.mem_cons_of_mem _ hg)))).step) $$ [HO Hr4]
  · isplitr; · iexact Hrec
    isplitl [HO]; · iexact HO
    iexact Hr4
  iintro ⟨HO, Hp, Hz4⟩
  ihave Hp := (land_split _ _ _ _) $$ Hp
  icases Hp with ⟨Hp, Hkp4⟩
  ihave Hp := (quarters m false 1 c) $$ Hp
  icases Hp with ⟨Hpa, Hpb⟩
  iapply ((tr_sendQ m K false 0 c n₃ _ h₃).step) $$ [HO Hs2 Hpa]
  · isplitr; · iexact Hrec
    isplitl [HO]; · iexact HO
    isplitl [Hs2]; · iexact Hs2
    iexact Hpa
  iintro ⟨HO, Ht2⟩
  iapply ((tr_sendQ m K false 1 c n₄ _ h₄).last) $$ [HO Hs4 Hpb]
  · isplitr; · iexact Hrec
    isplitl [HO]; · iexact HO
    isplitl [Hs4]; · iexact Hs4
    iexact Hpb
  iintro ⟨HO, Ht4⟩
  iapply Hk
  isplitl [HO]; · iexact HO
  isplitl [Ht1 Ht2 Ht3 Ht4]
  · isplitl [Ht1]; · iexact Ht1
    isplitl [Ht2]; · iexact Ht2
    isplitl [Ht3]; · iexact Ht3
    iexact Ht4
  isplitl [Hz1 Hz2 Hz3 Hz4]
  · isplitl [Hz1]; · iexact Hz1
    isplitl [Hz2]; · iexact Hz2
    isplitl [Hz3]; · iexact Hz3
    iexact Hz4
  isplitl [Hkp1 Hkp3]
  · iapply (slot_join m true c 6)
    isplitl [Hkp1]; · iexact Hkp1
    iexact Hkp3
  isplitl [Hkp2 Hkp4]
  · iapply (slot_join m false c 6)
    isplitl [Hkp2]; · iexact Hkp2
    iexact Hkp4
  unfold restSix
  isplitl [HlT]; · iexact HlT
  iexact HlF

/-- The half of slot 7 each direction fills. -/
def halfP (d : Bool) (c : Dev nD) : sProp 𝕄 := land d c fullShare (if d then rg 7 0 128 else rg 7 128 256) (G m d c)

theorem tr_hopSeven (c : Dev nD) :
    Tr c iprop(recs m K ∗ Ow c [] ∗ S4 (recvRes c) 7) (hopSeven (F := F))
      iprop(Ow c [] ∗ S4 (closedR c) 7 ∗ halfP m true c ∗ halfP m false c) := by
  intro Q
  unfold hopSeven S4 closedR
  iintro ⟨⟨#Hrec, HO, Hr1, Hr2, Hr3, Hr4⟩, Hk⟩
  iapply ((tr_recvQ m K true 0 c).step) $$ [HO Hr1]
  · isplitr; · iexact Hrec
    isplitl [HO]; · iexact HO
    iexact Hr1
  iintro ⟨HO, Hp1, Hz1⟩
  iapply ((tr_recvQ m K false 0 c).step) $$ [HO Hr2]
  · isplitr; · iexact Hrec
    isplitl [HO]; · iexact HO
    iexact Hr2
  iintro ⟨HO, Hp2, Hz2⟩
  iapply ((tr_recvQ m K true 1 c).step) $$ [HO Hr3]
  · isplitr; · iexact Hrec
    isplitl [HO]; · iexact HO
    iexact Hr3
  iintro ⟨HO, Hp3, Hz3⟩
  iapply ((tr_recvQ m K false 1 c).last) $$ [HO Hr4]
  · isplitr; · iexact Hrec
    isplitl [HO]; · iexact HO
    iexact Hr4
  iintro ⟨HO, Hp4, Hz4⟩
  iapply Hk
  isplitl [HO]; · iexact HO
  isplitl [Hz1 Hz2 Hz3 Hz4]
  · isplitl [Hz1]; · iexact Hz1
    isplitl [Hz2]; · iexact Hz2
    isplitl [Hz3]; · iexact Hz3
    iexact Hz4
  unfold halfP
  isplitl [Hp1 Hp3]
  · iapply (Entails.of_eq (land_join true c fullShare (h := 7) (a := 0) (b := 64) (e := 128) (G m true c) (by decide) (by decide)))
    isplitl [Hp1]; · iexact Hp1
    iexact Hp3
  · iapply (Entails.of_eq (land_join false c fullShare (h := 7) (a := 128) (b := 192) (e := 256) (G m false c) (by decide) (by decide)))
    isplitl [Hp2]; · iexact Hp2
    iexact Hp4

/-! ## The departures -/

/-- What waiting for a flow to have left gives back. -/
def leftP (c : Dev nD) (f : Flow) : sProp 𝕄 := iprop(srcP m c f ∗ semVal (sendAt c f) 0)

theorem tr_leftPair (d : Bool) (h : Fin 7) (c : Dev nD) :
    Tr c iprop(recs m K ∗ Ow c [] ∗ D2 (sentRes c) d h.castSucc) (leftPair (F := F) d h)
      iprop(Ow c [] ∗ D2 (leftP m c) d h.castSucc) := by
  intro Q
  unfold leftPair D2 leftP
  iintro ⟨⟨#Hrec, HO, Hr1, Hr2⟩, Hk⟩
  iapply ((tr_leftH m K d h 0 c).step) $$ [HO Hr1]
  · isplitr; · iexact Hrec
    isplitl [HO]; · iexact HO
    iexact Hr1
  iintro ⟨HO, Hp1⟩
  iapply ((tr_leftH m K d h 1 c).last) $$ [HO Hr2]
  · isplitr; · iexact Hrec
    isplitl [HO]; · iexact HO
    iexact Hr2
  iintro ⟨HO, Hp2⟩
  iapply Hk
  isplitl [HO]; · iexact HO
  isplitl [Hp1]; · iexact Hp1
  iexact Hp2

theorem tr_leftAll (d : Bool) (c : Dev nD) :
    Tr c iprop(recs m K ∗ Ow c [] ∗ D8 (sentRes c) d) (leftAll (F := F) d) iprop(Ow c [] ∗ D8 (leftP m c) d) := by
  intro Q
  unfold leftAll D8
  iintro ⟨⟨#Hrec, HO, H0, H1, H2, H3, H4, H5, H6, H7⟩, Hk⟩
  iapply ((tr_leftPair m K d 0 c).step) $$ [HO H0]
  · isplitr; · iexact Hrec
    isplitl [HO]; · iexact HO
    iexact H0
  iintro ⟨HO, H0⟩
  iapply ((tr_leftPair m K d 1 c).step) $$ [HO H1]
  · isplitr; · iexact Hrec
    isplitl [HO]; · iexact HO
    iexact H1
  iintro ⟨HO, H1⟩
  iapply ((tr_leftPair m K d 2 c).step) $$ [HO H2]
  · isplitr; · iexact Hrec
    isplitl [HO]; · iexact HO
    iexact H2
  iintro ⟨HO, H2⟩
  iapply ((tr_leftPair m K d 3 c).step) $$ [HO H3]
  · isplitr; · iexact Hrec
    isplitl [HO]; · iexact HO
    iexact H3
  iintro ⟨HO, H3⟩
  iapply ((tr_leftPair m K d 4 c).step) $$ [HO H4]
  · isplitr; · iexact Hrec
    isplitl [HO]; · iexact HO
    iexact H4
  iintro ⟨HO, H4⟩
  iapply ((tr_leftPair m K d 5 c).step) $$ [HO H5]
  · isplitr; · iexact Hrec
    isplitl [HO]; · iexact HO
    iexact H5
  iintro ⟨HO, H5⟩
  iapply ((tr_leftPair m K d 6 c).step) $$ [HO H6]
  · isplitr; · iexact Hrec
    isplitl [HO]; · iexact HO
    iexact H6
  iintro ⟨HO, H6⟩
  unfold D2
  icases H7 with ⟨H7, H8⟩
  iapply ((tr_leftQ m K d 0 c).step) $$ [HO H7]
  · isplitr; · iexact Hrec
    isplitl [HO]; · iexact HO
    iexact H7
  iintro ⟨HO, H7⟩
  iapply ((tr_leftQ m K d 1 c).last) $$ [HO H8]
  · isplitr; · iexact Hrec
    isplitl [HO]; · iexact HO
    iexact H8
  iintro ⟨HO, H8⟩
  iapply Hk
  unfold leftP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Ring
-- ==== Proof.Local.lean ====
/-
# Narrowing `x` and `w`

Each piece of `x` and each panel of `w` is copied to a staging slot and written narrowed to its rows: the two steps of
each, at a symbolic piece.
-/
module

public import proofs.«01_k».proof.Proof.Hops

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ

/-- The local transfers' counters. -/
abbrev EC : UEmb Counters 𝕄 := countersEmb

/-! ## Buffers -/

section Buffers
/-- Rows of a device's `x`, of its `w`, of its narrowed `w`; a staging slot of each. -/
def xP (c : Dev nD) (S : Finset S256x4096.Idx) (f : FVec F S256x4096 .f32) : sProp 𝕄 :=
  ((c : Thread nD τ).loc main_arg0) ↦[S]{fullShare} (show Buf (Elt F) ((c : Thread nD τ).loc main_arg0) from f)
def wP (c : Dev nD) (S : Finset S4096x512.Idx) (f : FVec F S4096x512 .f32) : sProp 𝕄 :=
  ((c : Thread nD τ).loc main_arg1) ↦[S]{fullShare} (show Buf (Elt F) ((c : Thread nD τ).loc main_arg1) from f)
def w8P (c : Dev nD) (S : Finset S4096x512.Idx) (f : FVec F S4096x512 .fp8e4m3) : sProp 𝕄 :=
  ((c : Thread nD τ).loc cc0_scratch1) ↦[S]{fullShare} (show Buf (Elt F) ((c : Thread nD τ).loc cc0_scratch1) from f)
def sxP (c : Dev nD) (s : ℕ) (f : FVec F S2x64x4096 .f32) : sProp 𝕄 :=
  ((c : Thread nD τ).loc cc0_scratch4) ↦[sl2 64 4096 s]{fullShare} (show Buf (Elt F) ((c : Thread nD τ).loc cc0_scratch4) from f)
def swP (c : Dev nD) (s : ℕ) (f : FVec F S2x512x512 .f32) : sProp 𝕄 :=
  ((c : Thread nD τ).loc cc0_scratch5) ↦[sl2 512 512 s]{fullShare} (show Buf (Elt F) ((c : Thread nD τ).loc cc0_scratch5) from f)
end Buffers

abbrev rows64 (p : Fin 4) : Finset S256x4096.Idx := rw2 256 4096 (64 * p.val) (64 * p.val + 64)
abbrev rows512 (p : Fin 8) : Finset S4096x512.Idx := rw2 4096 512 (512 * p.val) (512 * p.val + 512)

theorem set_xPc (p : Fin 4) : (xPc p).view.set = rows64 p := (View.set_slice_whole main_arg0 _).trans set_rw2
theorem set_wPc (p : Fin 8) : (wPc p).view.set = rows512 p := (View.set_slice_whole main_arg1 _).trans set_rw2
theorem set_sxS (s : Fin 2) : (sxS s).view.set = sl2 64 4096 s.val :=
  (Memref.set_view_squeeze _ _).trans ((View.set_slice_whole cc0_scratch4 _).trans set_sl2)
theorem set_swS (s : Fin 2) : (swS s).view.set = sl2 512 512 s.val :=
  (Memref.set_view_squeeze _ _).trans ((View.set_slice_whole cc0_scratch5 _).trans set_sl2)
theorem set_rSX (s : Fin 2) : (sxM.access (rSX s)).set = sl2 64 4096 s.val := (View.set_slice_whole cc0_scratch4 _).trans set_sl2
theorem set_rSW (s : Fin 2) : (swM.access (rSW s)).set = sl2 512 512 s.val := (View.set_slice_whole cc0_scratch5 _).trans set_sl2
theorem set_rX8 (p : Fin 4) : (x8M.access (rX8 p)).set = rows64 p := (View.set_slice_whole cc0_scratch0 _).trans set_rw2
theorem set_rW8 (p : Fin 8) : (w8M.access (rW8 p)).set = rows512 p := (View.set_slice_whole cc0_scratch1 _).trans set_rw2

/-! ## What a staging slot holds -/

variable (m : (ℓ : Loc nD τ sig) → Buf (Elt F) ℓ) (K : Dev nD × Cell → ℕ)

/-- Piece `p` of `x`, panel `p` of `w`, in the shape of the staging buffer. -/
def stX (c : Dev nD) (p : Fin 4) : FVec F S2x64x4096 .f32 := fun i =>
  xin m c (ix2 (⟨64 * p.val + (i 1).val, by have h1 : (i 1).val < 64 := (i 1).isLt; have := p.isLt; omega⟩ : Fin 256) (i 2))
def stW (c : Dev nD) (p : Fin 8) : FVec F S2x512x512 .f32 := fun i =>
  win m c (ix2 (⟨512 * p.val + (i 1).val, by have h1 : (i 1).val < 512 := (i 1).isLt; have := p.isLt; omega⟩ : Fin 4096) (i 2))

def NX : ℕ := (sxS 0).view.dmaCredit
def NW : ℕ := (swS 0).view.dmaCredit
theorem NX_pos : 0 < NX := View.dmaCredit_pos _ (by decide)
theorem NW_pos : 0 < NW := View.dmaCredit_pos _ (by decide)

/-- A staging copy under way: it delivers the slot filled and the source back. -/
def flX (c : Dev nD) (p : Fin 4) : sProp 𝕄 :=
  Transfers.Flight EC (c : Thread nD τ) (.dma (semX p)) () NX iprop(sxP c (par4 p).val (stX m c p) ∗ xP c (rows64 p) (xin m c))
def flW (c : Dev nD) (p : Fin 8) : sProp 𝕄 :=
  Transfers.Flight EC (c : Thread nD τ) (.dma (semW p)) () NW iprop(swP c (par8 p).val (stW m c p) ∗ wP c (rows512 p) (win m c))

/-- The copy fills the slot with its piece. -/
theorem stX_eq (c : Dev nD) (p : Fin 4) (g : FVec F S2x64x4096 .f32) : ∀ i ∈ (sxS (par4 p)).view.set,
    (sxS (par4 p)).view.write (Elt F) g ((xPc p).view.read (Elt F) (xin m c)) Finset.univ i = stX m c p i := by
  refine write_eq_on (sxS (par4 p)).view g (stX m c p) _ fun i => ?_
  rw [eq_ix2 i]
  obtain ⟨h0, h1, h2⟩ := sq_index (A := 2) (R := 64) (C := 4096) (n := 64) (h := (par4 p).val) (a := 0) (inb := inbSX (par4 p))
    squeezes_S1x64x4096_S64x4096.numel_eq (i 0) (i 1)
  obtain ⟨g0, g1⟩ := row_index (R := 256) (C := 4096) (n := 64) (a := 64 * p.val) (inb := inbX p) (ix2 (i 0) (i 1))
  unfold stX
  refine congrArg (xin m c) ((eq_ix2 _).trans (congrArg₂ ix2 (Fin.ext ?_) (Fin.ext (g1.trans h2.symm))))
  exact g0.trans (congrArg (64 * p.val + ·) (show _ = _ from ((Nat.zero_add _).symm.trans h1.symm)))
theorem stW_eq (c : Dev nD) (p : Fin 8) (g : FVec F S2x512x512 .f32) : ∀ i ∈ (swS (par8 p)).view.set,
    (swS (par8 p)).view.write (Elt F) g ((wPc p).view.read (Elt F) (win m c)) Finset.univ i = stW m c p i := by
  refine write_eq_on (swS (par8 p)).view g (stW m c p) _ fun i => ?_
  rw [eq_ix2 i]
  obtain ⟨h0, h1, h2⟩ := sq_index (A := 2) (R := 512) (C := 512) (n := 512) (h := (par8 p).val) (a := 0) (inb := inbSW (par8 p))
    squeezes_S1x512x512_S512x512.numel_eq (i 0) (i 1)
  obtain ⟨g0, g1⟩ := row_index (R := 4096) (C := 512) (n := 512) (a := 512 * p.val) (inb := inbW p) (ix2 (i 0) (i 1))
  unfold stW
  refine congrArg (win m c) ((eq_ix2 _).trans (congrArg₂ ix2 (Fin.ext ?_) (Fin.ext (g1.trans h2.symm))))
  exact g0.trans (congrArg (512 * p.val + ·) (show _ = _ from ((Nat.zero_add _).symm.trans h1.symm)))

theorem tr_xStart (c : Dev nD) (p : Fin 4) (g : FVec F S2x64x4096 .f32) :
    Tr c iprop(xP c (rows64 p) (xin m c) ∗ sxP c (par4 p).val g ∗ semVal ((c : Thread nD τ), SemLoc.dma (semX p)) 0) (xStart (F := F) p) (flX m c p) := by
  intro Q
  unfold xStart Prog.lift flX xP sxP
  rw [← set_xPc p, ← set_sxS (par4 p)]
  iintro ⟨⟨Hs, Hd, Hz⟩, Hk⟩
  iapply (Transfers.wp_dmaLocal EC 𝒱₀ (c : Thread nD τ) none (src := xPc p) (dst := sxS (par4 p)) () NX rfl NX_pos (Finset.Subset.refl _)) $$ [Hs Hd Hz]
  · isplitl [Hs]; · iexact Hs
    isplitl [Hd]; · iexact Hd
    iexact Hz
  iintro Hf
  rw [wp_ret]
  imodintro
  iapply Hk
  iapply (Transfers.Flight_mono EC (c : Thread nD τ) (sep_mono_left (Entails.of_eq (pointsTo_congr (stX_eq m c p g))))) $$ Hf

theorem tr_wStart (c : Dev nD) (p : Fin 8) (g : FVec F S2x512x512 .f32) :
    Tr c iprop(wP c (rows512 p) (win m c) ∗ swP c (par8 p).val g ∗ semVal ((c : Thread nD τ), SemLoc.dma (semW p)) 0) (wStart (F := F) p) (flW m c p) := by
  intro Q
  unfold wStart Prog.lift flW wP swP
  rw [← set_wPc p, ← set_swS (par8 p)]
  iintro ⟨⟨Hs, Hd, Hz⟩, Hk⟩
  iapply (Transfers.wp_dmaLocal EC 𝒱₀ (c : Thread nD τ) none (src := wPc p) (dst := swS (par8 p)) () NW rfl NW_pos (Finset.Subset.refl _)) $$ [Hs Hd Hz]
  · isplitl [Hs]; · iexact Hs
    isplitl [Hd]; · iexact Hd
    iexact Hz
  iintro Hf
  rw [wp_ret]
  imodintro
  iapply Hk
  iapply (Transfers.Flight_mono EC (c : Thread nD τ) (sep_mono_left (Entails.of_eq (pointsTo_congr (stW_eq m c p g))))) $$ Hf

/-! ## The narrowed pieces -/

/-- What is stored of a piece is those rows of the narrowed block. -/
theorem narX_eq (c : Dev nD) (p : Fin 4) (g : FVec F S256x4096 .fp8e4m3) : ∀ i ∈ (x8M.access (rX8 p)).set,
    (x8M.access (rX8 p)).write (Elt F) g (k0_pay2 ((sxM.access (rSX (par4 p))).read (Elt F) (stX m c p))) Finset.univ i = X m c i := by
  refine write_eq_on (x8M.access (rX8 p)) g (X m c) _ fun i => ?_
  unfold k0_pay2
  rw [shapeCast_self, eq_ix2 i]
  obtain ⟨h0, h1, h2⟩ := sq_index (A := 2) (R := 64) (C := 4096) (n := 64) (h := (par4 p).val) (a := 0) (inb := inbSX (par4 p))
    shapeCasts_S1x64x4096_S64x4096 (i 0) (i 1)
  obtain ⟨g0, g1⟩ := row_index (R := 256) (C := 4096) (n := 64) (a := 64 * p.val) (inb := inbX p) (ix2 (i 0) (i 1))
  refine congrArg (fun v => (truncf .fp8e4m3 (fun _ : S1.Idx => v) bitsLt_fp8e4m3_f32 : FVec F S1 .fp8e4m3) (ix1 (0 : Fin 1))) (congrArg (xin m c) ((eq_ix2 _).trans (congrArg₂ ix2 (Fin.ext ?_) (Fin.ext (g1.trans h2.symm)))).symm)
  exact g0.trans (congrArg (64 * p.val + ·) (show _ = _ from ((Nat.zero_add _).symm.trans h1.symm)))
theorem narW_eq (c : Dev nD) (p : Fin 8) (g : FVec F S4096x512 .fp8e4m3) : ∀ i ∈ (w8M.access (rW8 p)).set,
    (w8M.access (rW8 p)).write (Elt F) g (k0_pay6 ((swM.access (rSW (par8 p))).read (Elt F) (stW m c p))) Finset.univ i = W m c i := by
  refine write_eq_on (w8M.access (rW8 p)) g (W m c) _ fun i => ?_
  unfold k0_pay6
  rw [shapeCast_self, eq_ix2 i]
  obtain ⟨h0, h1, h2⟩ := sq_index (A := 2) (R := 512) (C := 512) (n := 512) (h := (par8 p).val) (a := 0) (inb := inbSW (par8 p))
    shapeCasts_S1x512x512_S512x512 (i 0) (i 1)
  obtain ⟨g0, g1⟩ := row_index (R := 4096) (C := 512) (n := 512) (a := 512 * p.val) (inb := inbW p) (ix2 (i 0) (i 1))
  refine congrArg (fun v => (truncf .fp8e4m3 (fun _ : S1.Idx => v) bitsLt_fp8e4m3_f32 : FVec F S1 .fp8e4m3) (ix1 (0 : Fin 1))) (congrArg (win m c) ((eq_ix2 _).trans (congrArg₂ ix2 (Fin.ext ?_) (Fin.ext (g1.trans h2.symm)))).symm)
  exact g0.trans (congrArg (512 * p.val + ·) (show _ = _ from ((Nat.zero_add _).symm.trans h1.symm)))

/-- A wait on a local copy is below every obligation of the ring. -/
theorem mayWait_local (c : Dev nD) (s : DmaSem sig) (l : List Flow) (h : decode (.dma s) = none) :
    recs m K ⊢ MayWait (c : Thread nD τ) (.dma s) () (owed c l) :=
  (levs_at m K).trans (mayWait_owed c (.dma s) l (fun f _ => by rw [h]; show 0 < 2 + f.2.1.val; omega))

theorem tr_xStep (c : Dev nD) (p : Fin 4) (l : List Flow) (g : FVec F S256x4096 .fp8e4m3) :
    Tr c iprop(recs m K ∗ Ow c l ∗ flX m c p ∗ x8P c fullShare (rows64 p) g) (xStep (F := F) p)
      iprop(Ow c l ∗ x8P c fullShare (rows64 p) (X m c) ∗ xP c (rows64 p) (xin m c) ∗ sxP c (par4 p).val (stX m c p) ∗ semVal ((c : Thread nD τ), SemLoc.dma (semX p)) 0) := by
  intro Q
  unfold xStep Prog.lift Ow flX
  iintro ⟨⟨#Hrec, ⟨%V, HO⟩, Hf, Hx8⟩, Hk⟩
  iapply (Transfers.wp_waitLocalO EC 𝒱₀ (c : Thread nD τ) none () (show (sxS (par4 p)).view.dmaCredit = NX from rfl)) $$ [HO Hf]
  · isplitl [Hf]; · iexact Hf
    isplitl [HO]; · iexact HO
    iapply (mayWait_local m K c (semX p) l (by revert p; decide))
    iexact Hrec
  iintro ⟨⟨Hst, Hx⟩, Hz, HO⟩
  unfold sxP x8P
  rw [← set_rX8 p]
  iapply (wp_load_rect 𝒱₀ (c : Thread nD τ) none Set.univ (m := sxM) (r := rSX (par4 p)) (set_rSX (par4 p)).subset) $$ Hst
  iintro Hst
  iapply (wp_load_rect 𝒱₀ (c : Thread nD τ) none Set.univ (m := x8M) (r := rX8 p) (Finset.Subset.refl _)) $$ Hx8
  iintro Hx8
  iapply (wp_store 𝒱₀ (c : Thread nD τ) none Set.univ (m := x8M) (r := rX8 p) (Mk := Finset.univ) (show (x8M.access (rX8 p)).setOn Finset.univ ⊆ (x8M.access (rX8 p)).set from Finset.Subset.refl _)) $$ Hx8
  iintro Hx8
  rw [wp_ret]
  imodintro
  iapply Hk
  isplitl [HO]; · iexists _; iexact HO
  isplitl [Hx8]
  · iapply (Entails.of_eq (pointsTo_congr (narX_eq m c p g))) $$ Hx8
  isplitl [Hx]; · iexact Hx
  isplitl [Hst]; · iexact Hst
  iexact Hz
theorem tr_wStep (c : Dev nD) (p : Fin 8) (l : List Flow) (g : FVec F S4096x512 .fp8e4m3) :
    Tr c iprop(recs m K ∗ Ow c l ∗ flW m c p ∗ w8P c (rows512 p) g) (wStep (F := F) p)
      iprop(Ow c l ∗ w8P c (rows512 p) (W m c) ∗ wP c (rows512 p) (win m c) ∗ swP c (par8 p).val (stW m c p) ∗ semVal ((c : Thread nD τ), SemLoc.dma (semW p)) 0) := by
  intro Q
  unfold wStep Prog.lift Ow flW
  iintro ⟨⟨#Hrec, ⟨%V, HO⟩, Hf, Hx8⟩, Hk⟩
  iapply (Transfers.wp_waitLocalO EC 𝒱₀ (c : Thread nD τ) none () (show (swS (par8 p)).view.dmaCredit = NW from rfl)) $$ [HO Hf]
  · isplitl [Hf]; · iexact Hf
    isplitl [HO]; · iexact HO
    iapply (mayWait_local m K c (semW p) l (by revert p; decide))
    iexact Hrec
  iintro ⟨⟨Hst, Hx⟩, Hz, HO⟩
  unfold swP w8P
  rw [← set_rW8 p]
  iapply (wp_load_rect 𝒱₀ (c : Thread nD τ) none Set.univ (m := swM) (r := rSW (par8 p)) (set_rSW (par8 p)).subset) $$ Hst
  iintro Hst
  iapply (wp_load_rect 𝒱₀ (c : Thread nD τ) none Set.univ (m := w8M) (r := rW8 p) (Finset.Subset.refl _)) $$ Hx8
  iintro Hx8
  iapply (wp_store 𝒱₀ (c : Thread nD τ) none Set.univ (m := w8M) (r := rW8 p) (Mk := Finset.univ) (show (w8M.access (rW8 p)).setOn Finset.univ ⊆ (w8M.access (rW8 p)).set from Finset.Subset.refl _)) $$ Hx8
  iintro Hx8
  rw [wp_ret]
  imodintro
  iapply Hk
  isplitl [HO]; · iexists _; iexact HO
  isplitl [Hx8]
  · iapply (Entails.of_eq (pointsTo_congr (narW_eq m c p g))) $$ Hx8
  isplitl [Hx]; · iexact Hx
  isplitl [Hst]; · iexact Hst
  iexact Hz

end Cert.Ring
-- ==== Proof.Bands.lean ====
/-
# The bands of results

Each product is put in a slot of the staging buffer and copied to its rows of the result. These are the steps of a
band, at a symbolic slot and a symbolic device whose rows it is made of, and the bands of one hop.
-/
module

public import proofs.«01_k».proof.Proof.Local

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ

/-! ## Where the bands go -/

theorem off1_eq : ∀ c : Dev nD, k0_off1 c = ![256 * c.val, 0] := by decide +kernel
theorem off2_eq : ∀ (c : Dev nD) (r : Fin 7), k0_off2 c (BitVec.ofNat 32 r.val) = ![256 * (org true c (r.val + 1)).val, 0] := by decide +kernel
theorem off3_eq : ∀ (c : Dev nD) (r : Fin 7), k0_off3 c (BitVec.ofNat 32 r.val) = ![256 * (org false c (r.val + 1)).val, 0] := by decide +kernel
theorem off4_eq : ∀ c : Dev nD, k0_off4 c = ![256 * (org false c 8).val, 0] := by decide +kernel

/-! ## Buffers -/

def oP (c : Dev nD) (S : Finset S4096x512.Idx) (f : FVec F S4096x512 .f32) : sProp 𝕄 :=
  ((c : Thread nD τ).loc main_v1) ↦[S]{fullShare} (show Buf (Elt F) ((c : Thread nD τ).loc main_v1) from f)
def bdP (c : Dev nD) (s : Fin 2) (f : FVec F S2x256x512 .f32) : sProp 𝕄 :=
  ((c : Thread nD τ).loc cc0_scratch6) ↦[sl2 256 512 s.val]{fullShare} (show Buf (Elt F) ((c : Thread nD τ).loc cc0_scratch6) from f)
/-- The rows of the result made of the rows of device `o`. -/
abbrev outRows (o : Dev nD) : Finset S4096x512.Idx := rw2 4096 512 (256 * o.val) (256 * o.val + 256)

theorem set_bdS (s : Fin 2) : (bdS s).view.set = sl2 256 512 s.val :=
  (Memref.set_view_squeeze _ _).trans ((View.set_slice_whole cc0_scratch6 _).trans set_sl2)
theorem set_rBD (s : Fin 2) : (bdM.access (rBD s)).set = sl2 256 512 s.val := (View.set_slice_whole cc0_scratch6 _).trans set_sl2
theorem set_oPc (o : Dev nD) (off : Fin 2 → ℕ) (ho) (h : off = ![256 * o.val, 0]) : (oPc off ho).view.set = outRows o := by
  subst h
  exact (View.set_slice_whole main_v1 _).trans set_rw2

variable (m : (ℓ : Loc nD τ sig) → Buf (Elt F) ℓ) (K : Dev nD × Cell → ℕ)

/-- A band, in the shape of the staging buffer. -/
def bdV (c o : Dev nD) : FVec F S2x256x512 .f32 := fun i => blk m c o (ix3 (0 : Fin 1) (i 1) (i 2))
def NB : ℕ := (bdS 0).view.dmaCredit
theorem NB_pos : 0 < NB := View.dmaCredit_pos _ (by decide)

/-- A slot of the band buffer with anything in it; rows of the result with anything in them; those rows finished. -/
def bdFree (c : Dev nD) (s : Fin 2) : sProp 𝕄 := iprop(∃ g : FVec F S2x256x512 .f32, bdP c s g)
def oFree (c o : Dev nD) : sProp 𝕄 := iprop(∃ g : FVec F S4096x512 .f32, oP c (outRows o) g)
def oDone (c o : Dev nD) : sProp 𝕄 := oP c (outRows o) (outV m c)
/-- A slot at rest. -/
def bdIdle (c : Dev nD) (s : Fin 2) : sProp 𝕄 := iprop(bdFree (F := F) c s ∗ semVal ((c : Thread nD τ), SemLoc.dma (semB s)) 0)
/-- A band on its way out: it delivers the rows finished and the slot back. -/
def flB (c : Dev nD) (s : Fin 2) (o : Dev nD) : sProp 𝕄 :=
  Transfers.Flight EC (c : Thread nD τ) (.dma (semB s)) () NB iprop(oDone m c o ∗ bdFree (F := F) c s)

/-! ## A band's steps -/

theorem bdV_eq (c : Dev nD) (s : Fin 2) (o : Dev nD) (g : FVec F S2x256x512 .f32) : ∀ i ∈ (bdM.access (rBD s)).set,
    (bdM.access (rBD s)).write (Elt F) g (blk m c o) Finset.univ i = bdV m c o i := by
  refine write_eq_on (bdM.access (rBD s)) g (bdV m c o) _ fun i => ?_
  unfold bdV
  refine congrArg (blk m c o) ((eq_ix3 i).trans (congr (congrArg₂ ix3 (Fin.ext ?_) (Fin.ext ?_)) (Fin.ext ?_)))
  · have h0 : (i 0).val < 1 := (i 0).isLt
    show (i 0).val = 0; omega
  · show (i 1).val = 0 + 1 * (i 1).val; omega
  · show (i 2).val = 0 + 1 * (i 2).val; omega

/-- An element of the result, by the device whose rows it is in. -/
theorem outV_at (c o : Dev nD) (i : S4096x512.Idx) (a : Fin 256) (b : Fin 512) (h0 : (i 0).val = 256 * o.val + a.val) (h1 : (i 1).val = b.val) :
    outV m c i = blk m c o (ix3 (0 : Fin 1) a b) := by
  have ha := a.isLt
  unfold outV
  rw [show rowDev i = o from Fin.ext (by show (i 0).val / 256 = o.val; rw [h0]; omega)]
  refine congrArg (blk m c o) (congr (congrArg (ix3 (0 : Fin 1)) (Fin.ext ?_)) (Fin.ext h1))
  show (i 0).val % 256 = a.val
  rw [h0]; omega

theorem outV_eq (c : Dev nD) (s : Fin 2) (o : Dev nD) (ho) (g : FVec F S4096x512 .f32) : ∀ i ∈ (oPc ![256 * o.val, 0] ho).view.set,
    (oPc ![256 * o.val, 0] ho).view.write (Elt F) g ((bdS s).view.read (Elt F) (bdV m c o)) Finset.univ i = outV m c i := by
  refine write_eq_on (oPc ![256 * o.val, 0] ho).view g (outV m c) _ fun i => ?_
  rw [eq_ix2 i]
  obtain ⟨h0, h1, h2⟩ := sq_index (A := 2) (R := 256) (C := 512) (n := 256) (h := s.val) (a := 0) (inb := inbBD s)
    squeezes_S1x256x512_S256x512.numel_eq (i 0) (i 1)
  obtain ⟨g0, g1⟩ := row_index (R := 4096) (C := 512) (n := 256) (a := 256 * o.val) (inb := ho) (ix2 (i 0) (i 1))
  refine Eq.trans ?_ (outV_at m c o _ (i 0) (i 1) g0 g1).symm
  exact congrArg (blk m c o) (congr (congrArg (ix3 (0 : Fin 1)) (Fin.ext (h1.trans (Nat.zero_add _)))) (Fin.ext h2))

theorem tr_bandPut (c : Dev nD) (s : Fin 2) (o : Dev nD) (v : FVec F S1x256x512 .f32) (hv : v = blk m c o) :
    Tr c (bdFree (F := F) c s) (bandPut (F := F) s v) (bdP c s (bdV m c o)) := by
  subst hv
  intro Q
  unfold bandPut Prog.lift bdFree bdP
  iintro ⟨⟨%g, Hb⟩, Hk⟩
  iapply (wp_load_rect 𝒱₀ (c : Thread nD τ) none Set.univ (m := bdM) (r := rBD s) (set_rBD s).subset) $$ Hb
  iintro Hb
  iapply (wp_store 𝒱₀ (c : Thread nD τ) none Set.univ (m := bdM) (r := rBD s) (Mk := Finset.univ)
    (show (bdM.access (rBD s)).setOn Finset.univ ⊆ sl2 256 512 s.val from (set_rBD s).subset)) $$ Hb
  iintro Hb
  rw [wp_ret]
  imodintro
  iapply Hk
  iapply (Entails.of_eq (pointsTo_congr (by rw [← set_rBD s]; exact bdV_eq m c s o g))) $$ Hb

theorem tr_bandStart (c : Dev nD) (s : Fin 2) (o : Dev nD) (off : Fin 2 → ℕ) (ho) (h : off = ![256 * o.val, 0]) :
    Tr c iprop(bdP c s (bdV m c o) ∗ oFree (F := F) c o ∗ semVal ((c : Thread nD τ), SemLoc.dma (semB s)) 0) (bandStart (F := F) s off ho) (flB m c s o) := by
  intro Q
  unfold bandStart Prog.lift flB bdFree oFree oDone bdP oP
  rw [← set_oPc o off ho h, ← set_bdS s]
  subst h
  iintro ⟨⟨Hs, ⟨%g, Hd⟩, Hz⟩, Hk⟩
  iapply (Transfers.wp_dmaLocal EC 𝒱₀ (c : Thread nD τ) none (src := bdS s) (dst := oPc _ ho) () NB rfl NB_pos (Finset.Subset.refl _)) $$ [Hs Hd Hz]
  · isplitl [Hs]; · iexact Hs
    isplitl [Hd]; · iexact Hd
    iexact Hz
  iintro Hf
  rw [wp_ret]
  imodintro
  iapply Hk
  iapply (Transfers.Flight_mono EC (c : Thread nD τ) ?_) $$ Hf
  iintro ⟨Ho, Hb⟩
  isplitl [Ho]; · iapply (Entails.of_eq (pointsTo_congr (outV_eq m c s o ho g))) $$ Ho
  iexists (bdV m c o)
  iexact Hb

theorem tr_bandWait (c : Dev nD) (s : Fin 2) (o : Dev nD) (off : Fin 2 → ℕ) (ho) (l : List Flow) :
    Tr c iprop(recs m K ∗ Ow c l ∗ flB m c s o) (bandWait (F := F) s off ho) iprop(Ow c l ∗ oDone m c o ∗ bdIdle (F := F) c s) := by
  intro Q
  unfold bandWait Prog.lift Ow flB
  iintro ⟨⟨#Hrec, ⟨%V, HO⟩, Hf⟩, Hk⟩
  iapply (Transfers.wp_waitLocalO EC 𝒱₀ (c : Thread nD τ) none () (show (oPc off ho).view.dmaCredit = NB from rfl)) $$ [HO Hf]
  · isplitl [Hf]; · iexact Hf
    isplitl [HO]; · iexact HO
    iapply (mayWait_local m K c (semB s) l (by revert s; decide))
    iexact Hrec
  iintro ⟨⟨Ho, Hb⟩, Hz, HO⟩
  rw [wp_ret]
  imodintro
  iapply Hk
  unfold bdIdle
  isplitl [HO]; · iexists _; iexact HO
  isplitl [Ho]; · iexact Ho
  isplitl [Hb]; · iexact Hb
  iexact Hz

/-! ## What the loads read -/

theorem readSlot (d : Bool) (c : Dev nD) (h : Fin 8) :
    (fun i => G m d c ((Rect.unit (s := S8x256x4096) ![h.val, 0, 0] S1x256x4096.size (inbSlot h)).emb i)) = XS m (org d c (h.val + 1)) := by
  funext i
  have h0 : (i 0).val < 1 := (i 0).isLt
  unfold G XS
  refine congr (congrArg (fun o => X m (org d c o)) ?_) (congrArg₂ ix2 (Fin.ext ?_) (Fin.ext ?_))
  · show h.val + 1 * (i 0).val + 1 = h.val + 1; omega
  · show 0 + 1 * (i 1).val = (i 1).val; omega
  · show 0 + 1 * (i 2).val = (i 2).val; omega
theorem readHalf (d : Bool) (c : Dev nD) (j : Fin 2) :
    (fun i => G m d c ((Rect.unit (s := S8x256x4096) ![7, 128 * j.val, 0] S1x128x4096.size (inb128 7 j)).emb i)) = XH m j (org d c 8) := by
  funext i
  have h0 : (i 0).val < 1 := (i 0).isLt
  unfold G XH
  refine congr (congrArg (fun o => X m (org d c o)) ?_) (congrArg₂ ix2 (Fin.ext ?_) (Fin.ext ?_))
  · show 7 + 1 * (i 0).val + 1 = 8; omega
  · show 128 * j.val + 1 * (i 1).val = 128 * j.val + (i 1).val; omega
  · show 0 + 1 * (i 2).val = (i 2).val; omega

theorem ld_slot (d : Bool) (c : Dev nD) (h : Fin 8) (n : ℕ) (hn : h.val = n) {α : Type} (k : Vec F S1x256x4096 .fp8e4m3 → P (F := F) α) (Q : α → sProp 𝕄) :
    slotP m d c n ⊢ iprop((slotP m d c n -∗ wp frame (wpE defs₀ 𝒱₀ (c : Thread nD τ) none) Set.univ (k (XS m (org d c (n + 1)))) Q)
      -∗ wp frame (wpE defs₀ 𝒱₀ (c : Thread nD τ) none) Set.univ (loadSlot d h >>= k) Q) := by
  subst hn
  rw [← readSlot m d c h]
  unfold slotP land loadSlot Prog.lift
  cases d
  · exact wp_load_rect 𝒱₀ (c : Thread nD τ) none Set.univ (m := Md false) (r := Rect.unit (s := S8x256x4096) ![h.val, 0, 0] S1x256x4096.size (inbSlot h))
      ((View.set_slice_whole cc0_scratch3 _).trans (set_rg (h := h.val) (a := 0) (n := 256))).subset
  · exact wp_load_rect 𝒱₀ (c : Thread nD τ) none Set.univ (m := Md true) (r := Rect.unit (s := S8x256x4096) ![h.val, 0, 0] S1x256x4096.size (inbSlot h))
      ((View.set_slice_whole cc0_scratch2 _).trans (set_rg (h := h.val) (a := 0) (n := 256))).subset
theorem ld_half (d : Bool) (c : Dev nD) (j : Fin 2) (e : halfP m d c = land d c fullShare (rg 7 (128 * j.val) (128 * j.val + 128)) (G m d c)) {α : Type} (k : Vec F S1x128x4096 .fp8e4m3 → P (F := F) α) (Q : α → sProp 𝕄) :
    halfP m d c ⊢
      iprop((halfP m d c -∗ wp frame (wpE defs₀ 𝒱₀ (c : Thread nD τ) none) Set.univ (k (XH m j (org d c 8))) Q)
        -∗ wp frame (wpE defs₀ 𝒱₀ (c : Thread nD τ) none) Set.univ (loadHalf d j >>= k) Q) := by
  rw [e, ← readHalf m d c j]
  unfold land loadHalf Prog.lift
  cases d
  · exact wp_load_rect 𝒱₀ (c : Thread nD τ) none Set.univ (m := Md false) (r := Rect.unit (s := S8x256x4096) ![7, 128 * j.val, 0] S1x128x4096.size (inb128 7 j))
      ((View.set_slice_whole cc0_scratch3 _).trans (set_rg (h := 7) (a := 128 * j.val) (n := 128))).subset
  · exact wp_load_rect 𝒱₀ (c : Thread nD τ) none Set.univ (m := Md true) (r := Rect.unit (s := S8x256x4096) ![7, 128 * j.val, 0] S1x128x4096.size (inb128 7 j))
      ((View.set_slice_whole cc0_scratch2 _).trans (set_rg (h := 7) (a := 128 * j.val) (n := 128))).subset

theorem ld_x (c : Dev nD) (q : PosShare TreeShare) (f : FVec F S256x4096 .fp8e4m3) {α : Type} (k : Vec F S256x4096 .fp8e4m3 → P (F := F) α) (Q : α → sProp 𝕄) :
    x8P c q Finset.univ f ⊢ iprop((x8P c q Finset.univ f -∗ wp frame (wpE defs₀ 𝒱₀ (c : Thread nD τ) none) Set.univ (k f) Q)
      -∗ wp frame (wpE defs₀ 𝒱₀ (c : Thread nD τ) none) Set.univ (loadX >>= k) Q) := by
  have h := Memref.readAt_unit_zero (Elt F) cc0_scratch0 (off := ![0, 0]) (by funext a; fin_cases a <;> rfl) inb_S256x4096_S256x4096_0_0 f
  rw [show k f = k _ from congrArg k h.symm]
  unfold x8P loadX Prog.lift
  exact wp_load 𝒱₀ (c : Thread nD τ) none Set.univ (m := x8M)
    (r := (Rect.unit (s := S256x4096) ![0, 0] S256x4096.size inb_S256x4096_S256x4096_0_0).toLoadRect) (Finset.subset_univ _)

theorem ld_w (c : Dev nD) (f : FVec F S4096x512 .fp8e4m3) {α : Type} (k : Vec F S4096x512 .fp8e4m3 → P (F := F) α) (Q : α → sProp 𝕄) :
    w8P c Finset.univ f ⊢ iprop((w8P c Finset.univ f -∗ wp frame (wpE defs₀ 𝒱₀ (c : Thread nD τ) none) Set.univ (k f) Q)
      -∗ wp frame (wpE defs₀ 𝒱₀ (c : Thread nD τ) none) Set.univ (loadW >>= k) Q) := by
  have h := Memref.readAt_unit_zero (Elt F) cc0_scratch1 (off := ![0, 0]) (by funext a; fin_cases a <;> rfl) inb_S4096x512_S4096x512_0_0 f
  rw [show k f = k _ from congrArg k h.symm]
  unfold w8P loadW Prog.lift
  exact wp_load 𝒱₀ (c : Thread nD τ) none Set.univ (m := w8M)
    (r := (Rect.unit (s := S4096x512) ![0, 0] S4096x512.size inb_S4096x512_S4096x512_0_0).toLoadRect) (Finset.subset_univ _)

/-! ## The bands -/

/-- The rows a device holds from the start, and those of every slot but the last, make their band in one product. -/
theorem blk_own (c : Dev nD) : k0_pay15 (sc m c) (X m c) (W m c) = blk m c c := by
  unfold blk
  rw [if_neg (by revert c; decide)]
  unfold blkA k0_pay16
  rw [show shapeCast S256x4096 (XS m c) shapeCasts_S1x256x4096_S256x4096 = X m c from by
    funext i
    rw [eq_ix2 i]
    exact congrArg (XS m c) (ValueIdx.reshapeEquiv_ix2_1ab shapeCasts_S1x256x4096_S256x4096 (i 0) (i 1))]
  rfl
theorem blk_slot (d : Bool) (c : Dev nD) (h : Fin 7) : k0_pay16 (sc m c) (XS m (org d c (h.val + 1))) (W m c) = blk m c (org d c (h.val + 1)) := by
  unfold blk
  rw [if_neg (by revert d c h; decide)]
  rfl

/-- An element of the upper slot of the band buffer, by its half. -/
theorem half_emb (j : Fin 2) (a : Fin 128) (i : S2x256x512.Idx) (h0 : (i 0).val = 1) (h1 : (i 1).val = 128 * j.val + a.val) :
    (bdM.access (rBH j)).emb (ix3 (0 : Fin 1) a (i 2)) = i := by
  have e : ∀ k : Fin 3, (((rBH j).emb (ix3 (0 : Fin 1) a (i 2)) : S2x256x512.Idx) k).val = (i k).val := by
    intro k
    rw [Rect.emb_apply]
    fin_cases k
    · show 1 + 1 * 0 = (i 0).val; omega
    · show 128 * j.val + 1 * a.val = (i 1).val; omega
    · show 0 + 1 * (i 2).val = (i 2).val; omega
  exact funext fun k => Fin.ext (e k)
theorem write_half (j : Fin 2) (a : Fin 128) (i : S2x256x512.Idx) (h0 : (i 0).val = 1) (h1 : (i 1).val = 128 * j.val + a.val)
    (g : FVec F S2x256x512 .f32) (w : FVec F S1x128x512 .f32) :
    (bdM.access (rBH j)).write (Elt F) g w Finset.univ i = w (ix3 (0 : Fin 1) a (i 2)) :=
  (congrArg ((bdM.access (rBH j)).write (Elt F) g w Finset.univ) (half_emb j a i h0 h1).symm).trans (View.write_emb_of_mem _ _ (Finset.mem_univ _))

/-- The last band is put down in two halves. -/
theorem bdV_last (c : Dev nD) (g : FVec F S2x256x512 .f32) : ∀ i ∈ sl2 256 512 (1 : Fin 2).val,
    (bdM.access (rBH 1)).write (Elt F) ((bdM.access (rBH 0)).write (Elt F) g (k0_pay39 (sc m c) (XH m 0 (org false c 8)) (W m c)) Finset.univ)
      (k0_pay39 (sc m c) (XH m 1 (org false c 8)) (W m c)) Finset.univ i = bdV m c (org false c 8) i := by
  intro i hi
  have hi0 : (i 0).val = 1 := mem_sl2.1 hi
  have hi1 : (i 1).val < 256 := (i 1).isLt
  unfold bdV blk
  rw [if_pos rfl]
  unfold blkB
  by_cases h : (i 1).val < 128
  · refine Eq.trans ?_ (dif_pos (show ((ix3 (0 : Fin 1) (i 1) (i 2) : S1x256x512.Idx) 1).val < 128 from h)).symm
    refine (View.write_of_not_mem _ _ _ (fun hm => ?_)).trans (write_half 0 ⟨(i 1).val, h⟩ i hi0 (by show (i 1).val = 128 * 0 + (i 1).val; omega) g _)
    have := (Rect.mem_set_unit.1 ((View.set_slice_whole cc0_scratch6 (rBH 1)).subset hm) 1).1
    have : 128 * 1 ≤ (i 1).val := this
    omega
  · refine Eq.trans ?_ (dif_neg (show ¬ ((ix3 (0 : Fin 1) (i 1) (i 2) : S1x256x512.Idx) 1).val < 128 from h)).symm
    exact write_half 1 ⟨(i 1).val - 128, by omega⟩ i hi0 (by show (i 1).val = 128 * 1 + ((i 1).val - 128); omega) _ _

theorem rBH_subset (j : Fin 2) : (bdM.access (rBH j)).set ⊆ sl2 256 512 (1 : Fin 2).val := by
  intro i hm
  have := Rect.mem_set_unit.1 ((View.set_slice_whole cc0_scratch6 (rBH j)).subset hm) 0
  have h1 : 1 ≤ (i 0).val ∧ (i 0).val < 1 + 1 := this
  exact mem_sl2.2 (by omega)

theorem tr_bandOf (c : Dev nD) (t : Fin 2) (o : Dev nD) (x : Vec F S1x256x4096 .fp8e4m3) (off : Fin 2 → ℕ) (ho) (h : off = ![256 * o.val, 0])
    (hx : k0_pay16 (sc m c) x (W m c) = blk m c o) :
    Tr c iprop(w8P c Finset.univ (W m c) ∗ bdIdle (F := F) c t ∗ oFree (F := F) c o) (bandOf (F := F) (sc m c) t x off ho)
      iprop(w8P c Finset.univ (W m c) ∗ flB m c t o) := by
  intro Q
  unfold bandOf bdIdle
  iintro ⟨⟨Hw, ⟨Hb, Hz⟩, Ho⟩, Hk⟩
  iapply (ld_w c (W m c) _ Q) $$ Hw
  iintro Hw
  iapply (Tr.step (tr_bandPut m c t o _ hx) _ Q) $$ Hb
  iintro Hb
  iapply (tr_bandStart m c t o off ho h Q)
  isplitl [Hb Ho Hz]
  · isplitl [Hb]; · iexact Hb
    isplitl [Ho]; · iexact Ho
    iexact Hz
  iintro Hf
  iapply Hk
  isplitl [Hw]; · iexact Hw
  iexact Hf

theorem tr_bandOwn (c : Dev nD) (q : PosShare TreeShare) :
    Tr c iprop(x8P c q Finset.univ (X m c) ∗ w8P c Finset.univ (W m c) ∗ bdIdle (F := F) c 0 ∗ oFree (F := F) c c) (bandOwn (F := F) (sc m c) c)
      iprop(x8P c q Finset.univ (X m c) ∗ w8P c Finset.univ (W m c) ∗ flB m c 0 c) := by
  intro Q
  unfold bandOwn bdIdle
  iintro ⟨⟨Hx, Hw, ⟨Hb, Hz⟩, Ho⟩, Hk⟩
  iapply (ld_x c q (X m c) _ Q) $$ Hx
  iintro Hx
  iapply (ld_w c (W m c) _ Q) $$ Hw
  iintro Hw
  iapply (Tr.step (tr_bandPut m c 0 c _ (blk_own m c)) _ Q) $$ Hb
  iintro Hb
  iapply (tr_bandStart m c 0 c (k0_off1 c) (k0_off1_inb c) (off1_eq c) Q)
  isplitl [Hb Ho Hz]
  · isplitl [Hb]; · iexact Hb
    isplitl [Ho]; · iexact Ho
    iexact Hz
  iintro Hf
  iapply Hk
  isplitl [Hx]; · iexact Hx
  isplitl [Hw]; · iexact Hw
  iexact Hf

theorem tr_bands0 (c : Dev nD) (l : List Flow) :
    Tr c iprop(recs m K ∗ Ow c l ∗ w8P c Finset.univ (W m c) ∗ slotP m true c 0 ∗ slotP m false c 0 ∗ flB m c 0 c ∗ bdIdle (F := F) c 1
        ∗ oFree (F := F) c (org true c 1) ∗ oFree (F := F) c (org false c 1)) (bands0 (F := F) (sc m c) c)
      iprop(Ow c l ∗ w8P c Finset.univ (W m c) ∗ slotP m true c 0 ∗ slotP m false c 0 ∗ oDone m c c ∗ flB m c 1 (org true c 1) ∗ flB m c 0 (org false c 1)) := by
  intro Q
  unfold bands0
  iintro ⟨⟨#Hrec, HO, Hw, Hr, Hl, Hf0, Hi1, Hor, Hol⟩, Hk⟩
  iapply (ld_slot m true c 0 0 rfl _ Q) $$ Hr
  iintro Hr
  iapply (Tr.step (tr_bandOf m c 1 (org true c 1) _ _ (k0_off2_inb c 0) (off2_eq c 0) (blk_slot m true c 0)) _ Q) $$ [Hw Hi1 Hor]
  · isplitl [Hw]; · iexact Hw
    isplitl [Hi1]; · iexact Hi1
    iexact Hor
  iintro ⟨Hw, Hf1⟩
  iapply (ld_slot m false c 0 0 rfl _ Q) $$ Hl
  iintro Hl
  iapply (Tr.step (tr_bandWait m K c 0 c (k0_off1 c) (k0_off1_inb c) l) _ Q) $$ [HO Hf0]
  · isplitr; · iexact Hrec
    isplitl [HO]; · iexact HO
    iexact Hf0
  iintro ⟨HO, Hd, Hi0⟩
  iapply (tr_bandOf m c 0 (org false c 1) _ _ (k0_off3_inb c 0) (off3_eq c 0) (blk_slot m false c 0) Q)
  isplitl [Hw Hi0 Hol]
  · isplitl [Hw]; · iexact Hw
    isplitl [Hi0]; · iexact Hi0
    iexact Hol
  iintro ⟨Hw, Hf0⟩
  iapply Hk
  isplitl [HO]; · iexact HO
  isplitl [Hw]; · iexact Hw
  isplitl [Hr]; · iexact Hr
  isplitl [Hl]; · iexact Hl
  isplitl [Hd]; · iexact Hd
  isplitl [Hf1]; · iexact Hf1
  iexact Hf0

theorem tr_bands (c : Dev nD) (h : Fin 6) (l : List Flow) :
    Tr c iprop(recs m K ∗ Ow c l ∗ w8P c Finset.univ (W m c) ∗ slotP m true c (h.val + 1) ∗ slotP m false c (h.val + 1)
        ∗ flB m c 1 (org true c (h.val + 1)) ∗ flB m c 0 (org false c (h.val + 1))
        ∗ oFree (F := F) c (org true c (h.val + 2)) ∗ oFree (F := F) c (org false c (h.val + 2))) (bands (F := F) (sc m c) c h)
      iprop(Ow c l ∗ w8P c Finset.univ (W m c) ∗ slotP m true c (h.val + 1) ∗ slotP m false c (h.val + 1)
        ∗ oDone m c (org true c (h.val + 1)) ∗ oDone m c (org false c (h.val + 1))
        ∗ flB m c 1 (org true c (h.val + 2)) ∗ flB m c 0 (org false c (h.val + 2))) := by
  intro Q
  unfold bands
  iintro ⟨⟨#Hrec, HO, Hw, Hr, Hl, Hf1, Hf0, Hor, Hol⟩, Hk⟩
  iapply (ld_slot m true c h.succ.castSucc (h.val + 1) rfl _ Q) $$ Hr
  iintro Hr
  iapply (Tr.step (tr_bandWait m K c 1 (org true c (h.val + 1)) _ (k0_off2_inb c h.castSucc) l) _ Q) $$ [HO Hf1]
  · isplitr; · iexact Hrec
    isplitl [HO]; · iexact HO
    iexact Hf1
  iintro ⟨HO, Hd1, Hi1⟩
  iapply (Tr.step (tr_bandOf m c 1 (org true c (h.val + 2)) _ _ (k0_off2_inb c h.succ) (off2_eq c h.succ) (blk_slot m true c h.succ)) _ Q) $$ [Hw Hi1 Hor]
  · isplitl [Hw]; · iexact Hw
    isplitl [Hi1]; · iexact Hi1
    iexact Hor
  iintro ⟨Hw, Hf1⟩
  iapply (ld_slot m false c h.succ.castSucc (h.val + 1) rfl _ Q) $$ Hl
  iintro Hl
  iapply (Tr.step (tr_bandWait m K c 0 (org false c (h.val + 1)) _ (k0_off3_inb c h.castSucc) l) _ Q) $$ [HO Hf0]
  · isplitr; · iexact Hrec
    isplitl [HO]; · iexact HO
    iexact Hf0
  iintro ⟨HO, Hd0, Hi0⟩
  iapply (tr_bandOf m c 0 (org false c (h.val + 2)) _ _ (k0_off3_inb c h.succ) (off3_eq c h.succ) (blk_slot m false c h.succ) Q)
  isplitl [Hw Hi0 Hol]
  · isplitl [Hw]; · iexact Hw
    isplitl [Hi0]; · iexact Hi0
    iexact Hol
  iintro ⟨Hw, Hf0⟩
  iapply Hk
  isplitl [HO]; · iexact HO
  isplitl [Hw]; · iexact Hw
  isplitl [Hr]; · iexact Hr
  isplitl [Hl]; · iexact Hl
  isplitl [Hd1]; · iexact Hd1
  isplitl [Hd0]; · iexact Hd0
  isplitl [Hf1]; · iexact Hf1
  iexact Hf0

theorem tr_bandLast (c : Dev nD) (l : List Flow) :
    Tr c iprop(recs m K ∗ Ow c l ∗ w8P c Finset.univ (W m c) ∗ halfP m true c ∗ halfP m false c ∗ flB m c 1 (org true c 7) ∗ oFree (F := F) c (org false c 8))
      (bandLast (F := F) (sc m c) c)
      iprop(Ow c l ∗ w8P c Finset.univ (W m c) ∗ halfP m true c ∗ halfP m false c ∗ oDone m c (org true c 7) ∗ flB m c 1 (org false c 8)) := by
  intro Q
  unfold bandLast
  iintro ⟨⟨#Hrec, HO, Hw, Hr, Hl, Hf1, Ho⟩, Hk⟩
  iapply (ld_half m true c 0 rfl _ Q) $$ Hr
  iintro Hr
  iapply (ld_half m false c 1 rfl _ Q) $$ Hl
  iintro Hl
  rw [org_eight c]
  iapply (Tr.step (tr_bandWait m K c 1 (org true c 7) _ (k0_off2_inb c 6) l) _ Q) $$ [HO Hf1]
  · isplitr; · iexact Hrec
    isplitl [HO]; · iexact HO
    iexact Hf1
  iintro ⟨HO, Hd1, Hi1⟩
  iapply (ld_w c (W m c) _ Q) $$ Hw
  iintro Hw
  unfold halfPut Prog.lift bdIdle bdFree
  icases Hi1 with ⟨⟨%g, Hb⟩, Hz⟩
  unfold bdP
  iapply (wp_load_rect 𝒱₀ (c : Thread nD τ) none Set.univ (m := bdM) (r := rBH 0) (rBH_subset 0)) $$ Hb
  iintro Hb
  iapply (wp_store 𝒱₀ (c : Thread nD τ) none Set.univ (m := bdM) (r := rBH 0) (Mk := Finset.univ)
    (show (bdM.access (rBH 0)).setOn Finset.univ ⊆ sl2 256 512 (1 : Fin 2).val from rBH_subset 0)) $$ Hb
  iintro Hb
  iapply (ld_w c (W m c) _ Q) $$ Hw
  iintro Hw
  iapply (wp_load_rect 𝒱₀ (c : Thread nD τ) none Set.univ (m := bdM) (r := rBH 1) (rBH_subset 1)) $$ Hb
  iintro Hb
  iapply (wp_store 𝒱₀ (c : Thread nD τ) none Set.univ (m := bdM) (r := rBH 1) (Mk := Finset.univ)
    (show (bdM.access (rBH 1)).setOn Finset.univ ⊆ sl2 256 512 (1 : Fin 2).val from rBH_subset 1)) $$ Hb
  iintro Hb
  iapply (tr_bandStart m c 1 (org false c 8) (k0_off4 c) (k0_off4_inb c) (off4_eq c) Q)
  isplitl [Hb Ho Hz]
  · isplitl [Hb]
    · unfold bdP
      iapply (Entails.of_eq (pointsTo_congr (bdV_last m c g))) $$ Hb
    isplitl [Ho]; · iexact Ho
    iexact Hz
  iintro Hf
  iapply Hk
  isplitl [HO]; · iexact HO
  isplitl [Hw]; · iexact Hw
  isplitl [Hr]; · iexact Hr
  isplitl [Hl]; · iexact Hl
  isplitl [Hd1]; · iexact Hd1
  iexact Hf

end Cert.Ring
-- ==== Proof.Phases.lean ====
/-
# The phases before the ring turns

The entry handshake, the two scales, the narrowing of `x` with the first copies to the neighbours, the narrowing of `w`.
-/
module

public import proofs.«01_k».proof.Proof.Bands

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ
variable (m : (ℓ : Loc nD τ sig) → Buf (Elt F) ℓ) (K : Dev nD × Cell → ℕ)

/-! ## The entry -/

/-- The pieces of a device's own landing buffer that it hands over at the barrier. -/
def handP (c : Dev nD) (d : Bool) : sProp 𝕄 := bigSep (Finset.univ : Finset (Fin 8 × Fin 2)) fun p => freeP (F := F) c (d, p)
/-- The pieces of its neighbour's landing buffer that it is handed. -/
abbrev nbFree (c : Dev nD) (f : Flow) : sProp 𝕄 := freeP (F := F) (nb f.1 c) f

theorem bigSep_dir (Φ : Flow → sProp 𝕄) (d : Bool) : (bigSep (Finset.univ : Finset (Fin 8 × Fin 2)) fun p => Φ (d, p)) = D8 Φ d := by
  rw [bigSep_univ_eq_bigSepL [(0, 0), (0, 1), (1, 0), (1, 1), (2, 0), (2, 1), (3, 0), (3, 1), (4, 0), (4, 1), (5, 0), (5, 1), (6, 0), (6, 1), (7, 0), (7, 1)]
    (by decide) (by decide)]
  unfold D8 D2
  simp only [bigSepL_cons_cons, bigSepL_singleton, assoc_eq]
  rfl
theorem barPay_flows (c : Dev nD) : iprop(barPay (F := F) c false ∗ barPay (F := F) c true) ⊢ bigSep Finset.univ (nbFree (F := F) c) := by
  rw [bigSep_flows_dir]
  unfold barPay
  rw [show (bigSep (Finset.univ : Finset (Fin 8 × Fin 2)) fun p => freeP (F := F) (nb false c) (false, p)) = D8 (nbFree c) false from bigSep_dir (nbFree c) false,
    show (bigSep (Finset.univ : Finset (Fin 8 × Fin 2)) fun p => freeP (F := F) (nb true c) (true, p)) = D8 (nbFree c) true from bigSep_dir (nbFree c) true]
  exact sep_comm.1

def stXAny (c : Dev nD) (s : Fin 2) : sProp 𝕄 := iprop(∃ g : FVec F S2x64x4096 .f32, sxP c s.val g)
def stWAny (c : Dev nD) (s : Fin 2) : sProp 𝕄 := iprop(∃ g : FVec F S2x512x512 .f32, swP c s.val g)
abbrev zeroD (c : Dev nD) (s : DmaSem sig) : sProp 𝕄 := semVal ((c : Thread nD τ), SemLoc.dma s) 0

theorem tr_xStart' (c : Dev nD) (p : Fin 4) :
    Tr c iprop(xP c (rows64 p) (xin m c) ∗ stXAny (F := F) c (par4 p) ∗ zeroD c (semX p)) (xStart (F := F) p) (flX m c p) := by
  intro Q
  unfold stXAny
  iintro ⟨⟨Hx, ⟨%g, Hs⟩, Hz⟩, Hk⟩
  iapply (tr_xStart m c p g Q)
  isplitl [Hx Hs Hz]
  · isplitl [Hx]; · iexact Hx
    isplitl [Hs]; · iexact Hs
    iexact Hz
  iexact Hk
theorem tr_wStart' (c : Dev nD) (p : Fin 8) :
    Tr c iprop(wP c (rows512 p) (win m c) ∗ stWAny (F := F) c (par8 p) ∗ zeroD c (semW p)) (wStart (F := F) p) (flW m c p) := by
  intro Q
  unfold stWAny
  iintro ⟨⟨Hx, ⟨%g, Hs⟩, Hz⟩, Hk⟩
  iapply (tr_wStart m c p g Q)
  isplitl [Hx Hs Hz]
  · isplitl [Hx]; · iexact Hx
    isplitl [Hs]; · iexact Hs
    iexact Hz
  iexact Hk

theorem tr_xStep' (c : Dev nD) (p : Fin 4) (l : List Flow) :
    Tr c iprop(recs m K ∗ Ow c l ∗ flX m c p ∗ (∃ g, x8P c fullShare (rows64 p) g)) (xStep (F := F) p)
      iprop(Ow c l ∗ x8P c fullShare (rows64 p) (X m c) ∗ xP c (rows64 p) (xin m c) ∗ stXAny (F := F) c (par4 p) ∗ zeroD c (semX p)) := by
  intro Q
  iintro ⟨⟨#Hrec, HO, Hf, ⟨%g, Hx⟩⟩, Hk⟩
  iapply (tr_xStep m K c p l g Q)
  isplitl [HO Hf Hx]
  · isplitr; · iexact Hrec
    isplitl [HO]; · iexact HO
    isplitl [Hf]; · iexact Hf
    iexact Hx
  iintro ⟨HO, Hx8, Hx, Hs, Hz⟩
  iapply Hk
  unfold stXAny
  isplitl [HO]; · iexact HO
  isplitl [Hx8]; · iexact Hx8
  isplitl [Hx]; · iexact Hx
  isplitl [Hs]; · iexists _; iexact Hs
  iexact Hz
theorem tr_wStep' (c : Dev nD) (p : Fin 8) (l : List Flow) :
    Tr c iprop(recs m K ∗ Ow c l ∗ flW m c p ∗ (∃ g, w8P c (rows512 p) g)) (wStep (F := F) p)
      iprop(Ow c l ∗ w8P c (rows512 p) (W m c) ∗ wP c (rows512 p) (win m c) ∗ stWAny (F := F) c (par8 p) ∗ zeroD c (semW p)) := by
  intro Q
  iintro ⟨⟨#Hrec, HO, Hf, ⟨%g, Hx⟩⟩, Hk⟩
  iapply (tr_wStep m K c p l g Q)
  isplitl [HO Hf Hx]
  · isplitr; · iexact Hrec
    isplitl [HO]; · iexact HO
    isplitl [Hf]; · iexact Hf
    iexact Hx
  iintro ⟨HO, Hx8, Hx, Hs, Hz⟩
  iapply Hk
  unfold stWAny
  isplitl [HO]; · iexact HO
  isplitl [Hx8]; · iexact Hx8
  isplitl [Hx]; · iexact Hx
  isplitl [Hs]; · iexists _; iexact Hs
  iexact Hz

/-- A unit to a neighbour's barrier, handing over the landing pieces it fills. -/
theorem tr_signal (d : Bool) (c n : Dev nD) (hn : nb d n = c) (O : CellTallies nD τ sig Unit) :
    Tr c iprop(recs m K ∗ (∃ V, owes (c : Thread nD τ) (O + tallyAt (barAt n) () 1) V) ∗ dutyTok (ER : Emb UB 𝕄) (barAt n) 0 d ∗ handP (F := F) c d)
      (semSignalWord n barS 1#32) iprop(∃ V, owes (c : Thread nD τ) O V) := by
  intro Q
  unfold semSignalWord
  iintro ⟨⟨#Hrec, ⟨%V, HO⟩, Ht, Hh⟩, Hk⟩
  iapply (Rounds.wp_signal 𝒱₀ ER (ringRd m) (c : Thread nD τ) none (dst := (n : Thread nD τ)) (κ := K (n, none)) (sem := barS) (r := 0)
      (d := d) (k' := 1) (show d ∈ (ringRd m).duties (kcell (n, none)) 0 from by rw [duties_cell]; exact Finset.mem_univ _)
      (show (ringRd m).amount (kcell (n, none)) 0 d = 1 from amount_cell m n none 0 d) () O rfl) $$ [HO Ht Hh]
  · isplitr; · iapply (inv_at m K (n, none)); iexact Hrec
    isplitl [HO]; · iexact HO
    isplitl [Ht]; · iexact Ht
    isplitl [Hh]
    · iapply (Entails.of_eq (show handP (F := F) c d = (ringRd m).payload ((n : Thread nD τ), SemLoc.reg barS) 0 d from
        (show handP (F := F) c d = barPay n d from by unfold barPay handP; rw [hn]).trans (payload_cell m n none 0 d).symm)) $$ Hh
    · iapply (reached_at m K (n, none)); iexact Hrec
  iintro HO
  rw [wp_ret]
  imodintro
  iapply Hk
  iexists _; iexact HO

/-- Its own barrier waited for: both neighbours have handed over. -/
theorem tr_barWait (c : Dev nD) :
    Tr c iprop(recs m K ∗ Ow c sends ∗ cred (tallyAt (barAt c) () 2) ∗ atPos (ER : Emb UB 𝕄) (barAt c) 0 ∅ 0)
      (semWaitWord barS 2#32) iprop(Ow c sends ∗ semVal (barAt c) 0 ∗ bigSep Finset.univ (nbFree (F := F) c)) := by
  intro Q
  have hl : ∀ f ∈ sends, lvOf (decode (.reg barS)) < 2 + f.2.1.val := by
    rw [show decode (.reg barS) = some none from decode_csem none]
    intro f _; show 1 < 2 + f.2.1.val; omega
  generalize sends = l at hl ⊢
  unfold semWaitWord Ow
  iintro ⟨⟨#Hrec, ⟨%V, HO⟩, Hc, Hat⟩, Hk⟩
  iapply (Rounds.wp_wait_rest_token 𝒱₀ ER (ringRd m) (c : Thread nD τ) none (κ := K (c, none)) (sm := .reg barS)
      (wpE_semWait_eq 𝒱₀ (c : Thread nD τ) none Set.univ) (Set.mem_univ _) () (O := owed c l) (W := V) (R := 0) (m := 0) (T := ∅)
      (by rw [zero_add]; exact (expect_bar m c).symm)) $$ [Hc HO Hat]
  · isplitr; · iapply (inv_at m K (c, none)); iexact Hrec
    isplitl [Hc]; · iexact Hc
    isplitl [HO]; · iexact HO
    isplitr
    · iapply (mayWait_owed c (.reg barS) l hl)
      iapply (levs_at m K); iexact Hrec
    iexact Hat
  iintro ⟨HO, Hat, -, Hpay⟩
  ihave Hp := (Entails.of_eq (show bigSep ((ringRd m).duties ((c : Thread nD τ), SemLoc.reg barS) 0 \ ∅)
    (fun d => (ringRd m).payload ((c : Thread nD τ), SemLoc.reg barS) 0 d) = _ from rest_bar m c)) $$ Hpay
  ihave #Hinv := (inv_at m K (c, none)) $$ Hrec
  imod (Rounds.cell_close ER (ringRd m) (Set.mem_univ (K (c, none))) (fun h => h) (R := 0 + 1) (duties_later m _)) $$ [Hat] with Hz
  · isplitr; · iexact Hinv
    iexact Hat
  rw [wp_ret]
  imodintro
  iapply Hk
  isplitl [HO]; · iexists _; iexact HO
  isplitl [Hz]; · iexact Hz
  iapply (barPay_flows c) $$ Hp

/-- What the entry starts from. -/
def entryPre (c : Dev nD) : sProp 𝕄 :=
  iprop((∃ V, owes (c : Thread nD τ) (O₀ c) V) ∗ (cred (tallyAt (barAt c) () 2) ∗ atPos (ER : Emb UB 𝕄) (barAt c) 0 ∅ 0)
    ∗ (dutyTok (ER : Emb UB 𝕄) (barAt (prv c)) 0 true ∗ dutyTok (ER : Emb UB 𝕄) (barAt (nxt c)) 0 false)
    ∗ (handP (F := F) c true ∗ handP (F := F) c false) ∗ (xP c (rows64 0) (xin m c) ∗ xP c (rows64 1) (xin m c))
    ∗ (stXAny (F := F) c 0 ∗ stXAny (F := F) c 1) ∗ (zeroD c (semX 0) ∗ zeroD c (semX 1)))

theorem tr_entry (c n₁ n₂ : Dev nD) (h₁ : n₁ = prv c) (h₂ : n₂ = nxt c) :
    Tr c iprop(recs m K ∗ entryPre m c) (entry (F := F) n₁ n₂)
      iprop(Ow c sends ∗ semVal (barAt c) 0 ∗ bigSep Finset.univ (nbFree (F := F) c) ∗ flX m c 0 ∗ flX m c 1) := by
  subst h₁ h₂
  intro Q
  unfold entry entryPre O₀ O₁
  iintro ⟨⟨#Hrec, HO, ⟨Hc, Hat⟩, ⟨Htp, Htn⟩, ⟨Hhr, Hhl⟩, ⟨Hx0, Hx1⟩, ⟨Hs0, Hs1⟩, ⟨Hz0, Hz1⟩⟩, Hk⟩
  iapply (Tr.step (tr_xStart' m c 0) _ Q) $$ [Hx0 Hs0 Hz0]
  · isplitl [Hx0]; · iexact Hx0
    isplitl [Hs0]; · iexact Hs0
    iexact Hz0
  iintro Hf0
  iapply (Tr.step (tr_xStart' m c 1) _ Q) $$ [Hx1 Hs1 Hz1]
  · isplitl [Hx1]; · iexact Hx1
    isplitl [Hs1]; · iexact Hs1
    iexact Hz1
  iintro Hf1
  iapply (Tr.step (tr_signal m K true c (prv c) (nxt_prv c) _) _ Q) $$ [HO Htp Hhr]
  · isplitr; · iexact Hrec
    isplitl [HO]; · iexact HO
    isplitl [Htp]; · iexact Htp
    iexact Hhr
  iintro HO
  iapply (Tr.step (tr_signal m K false c (nxt c) (prv_nxt c) _) _ Q) $$ [HO Htn Hhl]
  · isplitr; · iexact Hrec
    isplitl [HO]; · iexact HO
    isplitl [Htn]; · iexact Htn
    iexact Hhl
  iintro HO
  iapply (tr_barWait m K c Q)
  isplitl [HO Hc Hat]
  · isplitr; · iexact Hrec
    isplitl [HO]; · unfold Ow; iexact HO
    isplitl [Hc]; · iexact Hc
    iexact Hat
  iintro ⟨HO, Hz, Hn⟩
  iapply Hk
  isplitl [HO]; · iexact HO
  isplitl [Hz]; · iexact Hz
  isplitl [Hn]; · iexact Hn
  isplitl [Hf0]; · iexact Hf0
  iexact Hf1

/-! ## The scales -/

/-- The two scales, as the staged operands hold them. -/
def aIn (c : Dev nD) : FVec F S1 .f32 := (m ((c : Thread nD τ).loc main_arg2) : FVec F S1 .f32)
def bIn (c : Dev nD) : FVec F S1 .f32 := (m ((c : Thread nD τ).loc main_arg3) : FVec F S1 .f32)
def aP (c : Dev nD) : sProp 𝕄 := ((c : Thread nD τ).loc cc0_stg0_0) ↦{fullShare} (show Buf (Elt F) ((c : Thread nD τ).loc cc0_stg0_0) from aIn m c)
def bP (c : Dev nD) : sProp 𝕄 := ((c : Thread nD τ).loc cc0_stg1_0) ↦{fullShare} (show Buf (Elt F) ((c : Thread nD τ).loc cc0_stg1_0) from bIn m c)

theorem ld_scale (c : Dev nD) {α : Type} (k : F .f32 → P (F := F) α) (Q : α → sProp 𝕄) :
    iprop(aP m c ∗ bP m c) ⊢ iprop((iprop(aP m c ∗ bP m c) -∗ wp frame (wpE defs₀ 𝒱₀ (c : Thread nD τ) none) Set.univ (k (sc m c)) Q)
      -∗ wp frame (wpE defs₀ 𝒱₀ (c : Thread nD τ) none) Set.univ (scale >>= k) Q) := by
  have hx : ((Rect.unit (s := S1) ![0] S1.size inb_S1_S1_0).emb (Shape.Idx.first (numel1_S1 ▸ Nat.one_pos)) : S1.Idx) = ix1 (0 : Fin 1) :=
    (eq_ix1 _).trans (congrArg ix1 (Subsingleton.elim _ _))
  have hs : sc m c = k0_pay1 (aIn m c ((Rect.unit (s := S1) ![0] S1.size inb_S1_S1_0).emb (Shape.Idx.first (numel1_S1 ▸ Nat.one_pos))))
      (bIn m c ((Rect.unit (s := S1) ![0] S1.size inb_S1_S1_0).emb (Shape.Idx.first (numel1_S1 ▸ Nat.one_pos)))) := by
    rw [hx]; rfl
  rw [hs]
  unfold scale smemLoad smemLoadElt aP bP
  iintro ⟨Ha, Hb⟩ Hk
  iapply (wp_load_rect 𝒱₀ (c : Thread nD τ) none Set.univ (m := aM) (r := Rect.unit (s := S1) ![0] S1.size inb_S1_S1_0)
    (Finset.subset_univ _)) $$ Ha
  iintro Ha
  iapply (wp_load_rect 𝒱₀ (c : Thread nD τ) none Set.univ (m := bM) (r := Rect.unit (s := S1) ![0] S1.size inb_S1_S1_0)
    (Finset.subset_univ _)) $$ Hb
  iintro Hb
  iapply Hk
  isplitl [Ha]; · iexact Ha
  iexact Hb

/-! ## The narrowed block -/

theorem rw2_disj {R C a b e f : ℕ} (h : b ≤ e) : Disjoint (rw2 R C a b) (rw2 R C e f) := by
  rw [Finset.disjoint_left]; intro i h1 h2; have := mem_rw2.1 h1; have := mem_rw2.1 h2; omega
theorem rw2_union {R C a b e : ℕ} (hab : a ≤ b) (hbe : b ≤ e) : rw2 R C a b ∪ rw2 R C b e = rw2 R C a e := by
  ext i; rw [Finset.mem_union, mem_rw2, mem_rw2, mem_rw2]; omega
theorem rw2_all {R C : ℕ} : rw2 R C 0 R = Finset.univ := by
  ext i; rw [mem_rw2]; exact ⟨fun _ => Finset.mem_univ _, fun _ => ⟨Nat.zero_le _, (i 0).isLt⟩⟩

/-- Consecutive blocks of rows make one. -/
theorem x8_join (c : Dev nD) (q : PosShare TreeShare) (f : FVec F S256x4096 .fp8e4m3) {a b e : ℕ} (hab : a ≤ b) (hbe : b ≤ e) :
    iprop(x8P c q (rw2 256 4096 a b) f ∗ x8P c q (rw2 256 4096 b e) f) = x8P c q (rw2 256 4096 a e) f := by
  unfold x8P
  rw [← rw2_union hab hbe]
  exact eq_of_both (pointsTo_union (rw2_disj (le_refl b))).2 (pointsTo_union (rw2_disj (le_refl b))).1
theorem x_join (c : Dev nD) (f : FVec F S256x4096 .f32) {a b e : ℕ} (hab : a ≤ b) (hbe : b ≤ e) :
    iprop(xP c (rw2 256 4096 a b) f ∗ xP c (rw2 256 4096 b e) f) = xP c (rw2 256 4096 a e) f := by
  unfold xP
  rw [← rw2_union hab hbe]
  exact eq_of_both (pointsTo_union (rw2_disj (le_refl b))).2 (pointsTo_union (rw2_disj (le_refl b))).1

/-- The narrowed block's share in three: one for each direction and one kept. -/
theorem x8_three (c : Dev nD) (S : Finset S256x4096.Idx) (f : FVec F S256x4096 .fp8e4m3) :
    x8P c fullShare S f = iprop((x8P c (x8Share true) S f ∗ x8P c (x8Share false) S f) ∗ x8P c fullShare.right S f) := by
  unfold x8P
  refine eq_of_both ((pointsTo_share (PosShare.mem_left_op_right fullShare)).1.trans (sep_mono_left (pointsTo_share (PosShare.mem_left_op_right fullShare.left)).1)) ?_
  exact (sep_mono_left (pointsTo_share (PosShare.mem_left_op_right fullShare.left)).2).trans (pointsTo_share (PosShare.mem_left_op_right fullShare)).2

/-- All of `x`, in pieces. -/
theorem x_pieces (c : Dev nD) (f : FVec F S256x4096 .f32) :
    xP c Finset.univ f = iprop(((xP c (rows64 0) f ∗ xP c (rows64 1) f) ∗ xP c (rows64 2) f) ∗ xP c (rows64 3) f) := by
  have h1 := x_join c f (a := 0) (b := 64) (e := 128) (by decide) (by decide)
  have h2 := x_join c f (a := 0) (b := 128) (e := 192) (by decide) (by decide)
  have h3 := x_join c f (a := 0) (b := 192) (e := 256) (by decide) (by decide)
  rw [show (Finset.univ : Finset S256x4096.Idx) = rw2 256 4096 0 256 from rw2_all.symm, ← h3, ← h2, ← h1]
  rfl
theorem x8_pieces (c : Dev nD) (q : PosShare TreeShare) (f : FVec F S256x4096 .fp8e4m3) :
    x8P c q Finset.univ f = iprop(((x8P c q (rows64 0) f ∗ x8P c q (rows64 1) f) ∗ x8P c q (rows64 2) f) ∗ x8P c q (rows64 3) f) := by
  have h1 := x8_join c q f (a := 0) (b := 64) (e := 128) (by decide) (by decide)
  have h2 := x8_join c q f (a := 0) (b := 128) (e := 192) (by decide) (by decide)
  have h3 := x8_join c q f (a := 0) (b := 192) (e := 256) (by decide) (by decide)
  rw [show (Finset.univ : Finset S256x4096.Idx) = rw2 256 4096 0 256 from rw2_all.symm, ← h3, ← h2, ← h1]
  rfl

/-- Two narrowed pieces make the half block of the first copies, a share for each direction and one kept. -/
theorem x8_half (c : Dev nD) (j : Fin 2) (p p' : Fin 4) (hp : 64 * p.val = 128 * j.val) (hp' : 64 * p'.val = 128 * j.val + 64) :
    iprop(x8P c fullShare (rows64 p) (X m c) ∗ x8P c fullShare (rows64 p') (X m c))
      ⊢ iprop((srcP m c (true, 0, j) ∗ srcP m c (false, 0, j)) ∗ x8P c fullShare.right (rw2 256 4096 (128 * j.val) (128 * j.val + 128)) (X m c)) := by
  unfold rows64
  rw [hp, hp', x8_join c fullShare (X m c) (by omega) (by omega), x8_three]
  exact Entails.of_eq rfl

/-- What the narrowing of `x` starts from, and what it leaves. -/
def xPre (c : Dev nD) : sProp 𝕄 :=
  iprop((flX m c 0 ∗ flX m c 1) ∗ (xP c (rows64 2) (xin m c) ∗ xP c (rows64 3) (xin m c)) ∗ (zeroD c (semX 2) ∗ zeroD c (semX 3))
    ∗ (∃ g, x8P c fullShare Finset.univ g) ∗ S4 (sendRes (F := F) c) 0)
def xPost (c : Dev nD) : sProp 𝕄 :=
  iprop(xP c Finset.univ (xin m c) ∗ (stXAny (F := F) c 0 ∗ stXAny (F := F) c 1) ∗ (zeroD c (semX 0) ∗ zeroD c (semX 1) ∗ zeroD c (semX 2) ∗ zeroD c (semX 3))
    ∗ x8P c fullShare.right Finset.univ (X m c) ∗ S4 (sentRes (F := F) c) 0)

theorem tr_xPhase (c n₁ n₂ n₃ n₄ : Dev nD) (h₁ : n₁ = nxt c) (h₂ : n₂ = prv c) (h₃ : n₃ = nxt c) (h₄ : n₄ = prv c) :
    Tr c iprop(recs m K ∗ Ow c (rem 0) ∗ xPre m c) (xPhase (F := F) n₁ n₂ n₃ n₄) iprop(Ow c (rem 1) ∗ xPost m c) := by
  intro Q
  rw [show rem 0 = (true, 0, 0) :: (false, 0, 0) :: (true, 0, 1) :: (false, 0, 1) :: rem 1 from rem_hop 0]
  generalize rem 1 = l
  unfold xPhase xPre S4
  iintro ⟨⟨#Hrec, HO, ⟨Hf0, Hf1⟩, ⟨Hx2, Hx3⟩, ⟨Hz2, Hz3⟩, ⟨%g, Hx8⟩, Hr0, Hl0, Hr1, Hl1⟩, Hk⟩
  ihave Hx8' := (Entails.of_eq (x8_pieces c fullShare g)) $$ Hx8
  icases Hx8' with ⟨⟨⟨Hg0, Hg1⟩, Hg2⟩, Hg3⟩
  iapply (Tr.step (tr_xStep' m K c 0 _) _ Q) $$ [HO Hf0 Hg0]
  · isplitr; · iexact Hrec
    isplitl [HO]; · iexact HO
    isplitl [Hf0]; · iexact Hf0
    iexists g; iexact Hg0
  iintro ⟨HO, Hv0, Hx0, Hs0, Hz0⟩
  iapply (Tr.step (tr_xStart' m c 2) _ Q) $$ [Hx2 Hs0 Hz2]
  · isplitl [Hx2]; · iexact Hx2
    isplitl [Hs0]; · iexact Hs0
    iexact Hz2
  iintro Hf2
  iapply (Tr.step (tr_xStep' m K c 1 _) _ Q) $$ [HO Hf1 Hg1]
  · isplitr; · iexact Hrec
    isplitl [HO]; · iexact HO
    isplitl [Hf1]; · iexact Hf1
    iexists g; iexact Hg1
  iintro ⟨HO, Hv1, Hx1, Hs1, Hz1⟩
  iapply (Tr.step (tr_xStart' m c 3) _ Q) $$ [Hx3 Hs1 Hz3]
  · isplitl [Hx3]; · iexact Hx3
    isplitl [Hs1]; · iexact Hs1
    iexact Hz3
  iintro Hf3
  ihave Hh := (x8_half m c 0 0 1 rfl rfl) $$ [Hv0 Hv1]
  · isplitl [Hv0]; · iexact Hv0
    iexact Hv1
  icases Hh with ⟨⟨Ha, Hb⟩, Hq0⟩
  iapply (Tr.step (tr_sendX m K true 0 c n₁ _ h₁) _ Q) $$ [HO Hr0 Ha]
  · isplitr; · iexact Hrec
    isplitl [HO]; · iexact HO
    isplitl [Hr0]; · iexact Hr0
    iexact Ha
  iintro ⟨HO, Hr0⟩
  iapply (Tr.step (tr_sendX m K false 0 c n₂ _ h₂) _ Q) $$ [HO Hl0 Hb]
  · isplitr; · iexact Hrec
    isplitl [HO]; · iexact HO
    isplitl [Hl0]; · iexact Hl0
    iexact Hb
  iintro ⟨HO, Hl0⟩
  iapply (Tr.step (tr_xStep' m K c 2 _) _ Q) $$ [HO Hf2 Hg2]
  · isplitr; · iexact Hrec
    isplitl [HO]; · iexact HO
    isplitl [Hf2]; · iexact Hf2
    iexists g; iexact Hg2
  iintro ⟨HO, Hv2, Hx2, Hs0, Hz2⟩
  iapply (Tr.step (tr_xStep' m K c 3 _) _ Q) $$ [HO Hf3 Hg3]
  · isplitr; · iexact Hrec
    isplitl [HO]; · iexact HO
    isplitl [Hf3]; · iexact Hf3
    iexists g; iexact Hg3
  iintro ⟨HO, Hv3, Hx3, Hs1, Hz3⟩
  ihave Hh := (x8_half m c 1 2 3 rfl rfl) $$ [Hv2 Hv3]
  · isplitl [Hv2]; · iexact Hv2
    iexact Hv3
  icases Hh with ⟨⟨Ha, Hb⟩, Hq1⟩
  iapply (Tr.step (tr_sendX m K true 1 c n₃ _ h₃) _ Q) $$ [HO Hr1 Ha]
  · isplitr; · iexact Hrec
    isplitl [HO]; · iexact HO
    isplitl [Hr1]; · iexact Hr1
    iexact Ha
  iintro ⟨HO, Hr1⟩
  iapply (tr_sendX m K false 1 c n₄ _ h₄ Q)
  isplitl [HO Hl1 Hb]
  · isplitr; · iexact Hrec
    isplitl [HO]; · iexact HO
    isplitl [Hl1]; · iexact Hl1
    iexact Hb
  iintro ⟨HO, Hl1⟩
  iapply Hk
  unfold xPost S4
  isplitl [HO]; · iexact HO
  isplitl [Hx0 Hx1 Hx2 Hx3]
  · iapply (Entails.of_eq (x_pieces c (xin m c)).symm)
    isplitl [Hx0 Hx1 Hx2]
    · isplitl [Hx0 Hx1]
      · isplitl [Hx0]; · iexact Hx0
        iexact Hx1
      iexact Hx2
    iexact Hx3
  isplitl [Hs0 Hs1]
  · isplitl [Hs0]; · iexact Hs0
    iexact Hs1
  isplitl [Hz0 Hz1 Hz2 Hz3]
  · isplitl [Hz0]; · iexact Hz0
    isplitl [Hz1]; · iexact Hz1
    isplitl [Hz2]; · iexact Hz2
    iexact Hz3
  isplitl [Hq0 Hq1]
  · iapply (Entails.of_eq (show iprop(x8P c fullShare.right (rw2 256 4096 (128 * (0 : Fin 2).val) (128 * (0 : Fin 2).val + 128)) (X m c)
        ∗ x8P c fullShare.right (rw2 256 4096 (128 * (1 : Fin 2).val) (128 * (1 : Fin 2).val + 128)) (X m c)) = x8P c fullShare.right Finset.univ (X m c) from by
      rw [show (Finset.univ : Finset S256x4096.Idx) = rw2 256 4096 0 256 from rw2_all.symm]
      exact x8_join c fullShare.right (X m c) (a := 0) (b := 128) (e := 256) (by decide) (by decide)))
    isplitl [Hq0]; · iexact Hq0
    iexact Hq1
  isplitl [Hr0]; · iexact Hr0
  isplitl [Hl0]; · iexact Hl0
  isplitl [Hr1]; · iexact Hr1
  iexact Hl1

/-! ## The narrowed panels -/

/-- A resource of each of the eight panels. -/
def E8 (Φ : Fin 8 → sProp 𝕄) : sProp 𝕄 := iprop(Φ 0 ∗ Φ 1 ∗ Φ 2 ∗ Φ 3 ∗ Φ 4 ∗ Φ 5 ∗ Φ 6 ∗ Φ 7)
theorem bigSep_eight (Φ : Fin 8 → sProp 𝕄) : bigSep Finset.univ Φ = E8 Φ := by
  rw [bigSep_univ_eq_bigSepL [0, 1, 2, 3, 4, 5, 6, 7] (by decide) (by decide)]
  unfold E8
  simp only [bigSepL_cons_cons, bigSepL_singleton]
  rfl

theorem rows512_disj : ∀ p ∈ (Finset.univ : Finset (Fin 8)), ∀ p' ∈ (Finset.univ : Finset (Fin 8)), p ≠ p' → Disjoint (rows512 p) (rows512 p') := by
  intro p _ p' _ h
  have hv : p.val ≠ p'.val := fun e => h (Fin.ext e)
  rw [Finset.disjoint_left]; intro i h1 h2; have := mem_rw2.1 h1; have := mem_rw2.1 h2; omega
theorem rows512_all : (Finset.univ : Finset (Fin 8)).biUnion rows512 = Finset.univ := by
  ext i
  have hi : (i 0).val < 4096 := (i 0).isLt
  refine ⟨fun _ => Finset.mem_univ _, fun _ => Finset.mem_biUnion.2 ⟨⟨(i 0).val / 512, by omega⟩, Finset.mem_univ _, mem_rw2.2 ?_⟩⟩
  show 512 * ((i 0).val / 512) ≤ (i 0).val ∧ (i 0).val < 512 * ((i 0).val / 512) + 512
  omega
theorem w_pieces (c : Dev nD) (f : FVec F S4096x512 .f32) : wP c Finset.univ f = E8 fun p => wP c (rows512 p) f := by
  rw [← bigSep_eight, ← rows512_all]
  unfold wP
  exact pointsTo_biUnion _ _ rows512_disj
theorem w8_pieces (c : Dev nD) (f : FVec F S4096x512 .fp8e4m3) : w8P c Finset.univ f = E8 fun p => w8P c (rows512 p) f := by
  rw [← bigSep_eight, ← rows512_all]
  unfold w8P
  exact pointsTo_biUnion _ _ rows512_disj

theorem tr_wPair (c : Dev nD) (p : Fin 6) (l : List Flow) :
    Tr c iprop(recs m K ∗ Ow c l ∗ flW m c p.castSucc.castSucc ∗ (∃ g, w8P c (rows512 p.castSucc.castSucc) g) ∗ wP c (rows512 p.succ.succ) (win m c) ∗ zeroD c (semW p.succ.succ))
      (wPair (F := F) p)
      iprop(Ow c l ∗ w8P c (rows512 p.castSucc.castSucc) (W m c) ∗ wP c (rows512 p.castSucc.castSucc) (win m c) ∗ zeroD c (semW p.castSucc.castSucc)
        ∗ flW m c p.succ.succ) := by
  intro Q
  unfold wPair
  iintro ⟨⟨#Hrec, HO, Hf, Hg, Hw, Hz⟩, Hk⟩
  iapply (Tr.step (tr_wStep' m K c p.castSucc.castSucc l) _ Q) $$ [HO Hf Hg]
  · isplitr; · iexact Hrec
    isplitl [HO]; · iexact HO
    isplitl [Hf]; · iexact Hf
    iexact Hg
  iintro ⟨HO, Hv, Hw', Hs, Hz'⟩
  rw [show par8 p.castSucc.castSucc = par8 p.succ.succ from by revert p; decide]
  iapply (tr_wStart' m c p.succ.succ Q)
  isplitl [Hw Hs Hz]
  · isplitl [Hw]; · iexact Hw
    isplitl [Hs]; · iexact Hs
    iexact Hz
  iintro Hf
  iapply Hk
  isplitl [HO]; · iexact HO
  isplitl [Hv]; · iexact Hv
  isplitl [Hw']; · iexact Hw'
  isplitl [Hz']; · iexact Hz'
  iexact Hf

/-- What the narrowing of `w` starts from, and what it leaves. -/
def wPre (c : Dev nD) : sProp 𝕄 :=
  iprop(wP c Finset.univ (win m c) ∗ (stWAny (F := F) c 0 ∗ stWAny (F := F) c 1) ∗ E8 (fun p => zeroD (F := F) c (semW p)) ∗ (∃ g, w8P (F := F) c Finset.univ g))
def wPost (c : Dev nD) : sProp 𝕄 :=
  iprop(wP c Finset.univ (win m c) ∗ (stWAny (F := F) c 0 ∗ stWAny (F := F) c 1) ∗ E8 (fun p => zeroD (F := F) c (semW p)) ∗ w8P c Finset.univ (W m c))

theorem tr_wPhase (c : Dev nD) (l : List Flow) : Tr c iprop(recs m K ∗ Ow c l ∗ wPre m c) (wPhase (F := F)) iprop(Ow c l ∗ wPost m c) := by
  intro Q
  unfold wPhase wPre
  rw [w_pieces]
  iintro ⟨⟨#Hrec, HO, Hw, ⟨Hs0, Hs1⟩, Hz, ⟨%g, Hg⟩⟩, Hk⟩
  ihave Hg' := (Entails.of_eq (w8_pieces c g)) $$ Hg
  unfold E8
  icases Hw with ⟨Hw0, Hw1, Hw2, Hw3, Hw4, Hw5, Hw6, Hw7⟩
  icases Hz with ⟨Hz0, Hz1, Hz2, Hz3, Hz4, Hz5, Hz6, Hz7⟩
  icases Hg' with ⟨Hg0, Hg1, Hg2, Hg3, Hg4, Hg5, Hg6, Hg7⟩
  iapply (Tr.step (tr_wStart' m c 0) _ Q) $$ [Hw0 Hs0 Hz0]
  · isplitl [Hw0]; · iexact Hw0
    isplitl [Hs0]; · iexact Hs0
    iexact Hz0
  iintro Hf0
  iapply (Tr.step (tr_wStart' m c 1) _ Q) $$ [Hw1 Hs1 Hz1]
  · isplitl [Hw1]; · iexact Hw1
    isplitl [Hs1]; · iexact Hs1
    iexact Hz1
  iintro Hf1
  iapply (Tr.step (tr_wPair m K c 0 l) _ Q) $$ [HO Hf0 Hg0 Hw2 Hz2]
  · isplitr; · iexact Hrec
    isplitl [HO]; · iexact HO
    isplitl [Hf0]; · iexact Hf0
    isplitl [Hg0]; · iexists g; iexact Hg0
    isplitl [Hw2]; · iexact Hw2
    iexact Hz2
  iintro ⟨HO, Hv0, Hw0, Hz0, Hf2⟩
  iapply (Tr.step (tr_wPair m K c 1 l) _ Q) $$ [HO Hf1 Hg1 Hw3 Hz3]
  · isplitr; · iexact Hrec
    isplitl [HO]; · iexact HO
    isplitl [Hf1]; · iexact Hf1
    isplitl [Hg1]; · iexists g; iexact Hg1
    isplitl [Hw3]; · iexact Hw3
    iexact Hz3
  iintro ⟨HO, Hv1, Hw1, Hz1, Hf3⟩
  iapply (Tr.step (tr_wPair m K c 2 l) _ Q) $$ [HO Hf2 Hg2 Hw4 Hz4]
  · isplitr; · iexact Hrec
    isplitl [HO]; · iexact HO
    isplitl [Hf2]; · iexact Hf2
    isplitl [Hg2]; · iexists g; iexact Hg2
    isplitl [Hw4]; · iexact Hw4
    iexact Hz4
  iintro ⟨HO, Hv2, Hw2, Hz2, Hf4⟩
  iapply (Tr.step (tr_wPair m K c 3 l) _ Q) $$ [HO Hf3 Hg3 Hw5 Hz5]
  · isplitr; · iexact Hrec
    isplitl [HO]; · iexact HO
    isplitl [Hf3]; · iexact Hf3
    isplitl [Hg3]; · iexists g; iexact Hg3
    isplitl [Hw5]; · iexact Hw5
    iexact Hz5
  iintro ⟨HO, Hv3, Hw3, Hz3, Hf5⟩
  iapply (Tr.step (tr_wPair m K c 4 l) _ Q) $$ [HO Hf4 Hg4 Hw6 Hz6]
  · isplitr; · iexact Hrec
    isplitl [HO]; · iexact HO
    isplitl [Hf4]; · iexact Hf4
    isplitl [Hg4]; · iexists g; iexact Hg4
    isplitl [Hw6]; · iexact Hw6
    iexact Hz6
  iintro ⟨HO, Hv4, Hw4, Hz4, Hf6⟩
  iapply (Tr.step (tr_wPair m K c 5 l) _ Q) $$ [HO Hf5 Hg5 Hw7 Hz7]
  · isplitr; · iexact Hrec
    isplitl [HO]; · iexact HO
    isplitl [Hf5]; · iexact Hf5
    isplitl [Hg5]; · iexists g; iexact Hg5
    isplitl [Hw7]; · iexact Hw7
    iexact Hz7
  iintro ⟨HO, Hv5, Hw5, Hz5, Hf7⟩
  iapply (Tr.step (tr_wStep' m K c 6 l) _ Q) $$ [HO Hf6 Hg6]
  · isplitr; · iexact Hrec
    isplitl [HO]; · iexact HO
    isplitl [Hf6]; · iexact Hf6
    iexists g; iexact Hg6
  iintro ⟨HO, Hv6, Hw6, Hs0, Hz6⟩
  iapply (tr_wStep' m K c 7 l Q)
  isplitl [HO Hf7 Hg7]
  · isplitr; · iexact Hrec
    isplitl [HO]; · iexact HO
    isplitl [Hf7]; · iexact Hf7
    iexists g; iexact Hg7
  iintro ⟨HO, Hv7, Hw7, Hs1, Hz7⟩
  iapply Hk
  unfold wPost
  rw [w_pieces, w8_pieces]
  unfold E8
  isplitl [HO]; · iexact HO
  isplitl [Hw0 Hw1 Hw2 Hw3 Hw4 Hw5 Hw6 Hw7]
  · iframe Hw0 Hw1 Hw2 Hw3 Hw4 Hw5 Hw6 Hw7
  isplitl [Hs0 Hs1]
  · iframe Hs0 Hs1
  isplitl [Hz0 Hz1 Hz2 Hz3 Hz4 Hz5 Hz6 Hz7]
  · iframe Hz0 Hz1 Hz2 Hz3 Hz4 Hz5 Hz6 Hz7
  iframe Hv0 Hv1 Hv2 Hv3 Hv4 Hv5 Hv6 Hv7

end Cert.Ring
-- ==== Proof.Pieces.lean ====
/-
# The buffers, whole and in pieces

What a device's buffers are cut into before the ring turns, and how the pieces make the buffers again afterwards.
-/
module

public import proofs.«01_k».proof.Proof.Phases

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ
variable (m : (ℓ : Loc nD τ sig) → Buf (Elt F) ℓ) (K : Dev nD × Cell → ℕ)

/-! ## Any contents -/

/-- Two parts of a buffer with anything in them are one part with anything in it. -/
theorem any_join {ℓ : Loc nD τ sig} {S T : Finset (Idx ℓ)} (h : Disjoint S T) (f g : Buf (Elt F) ℓ) :
    iprop((ℓ ↦[S]{fullShare} f) ∗ (ℓ ↦[T]{fullShare} g)) ⊢ (iprop(∃ k : Buf (Elt F) ℓ, ℓ ↦[S ∪ T]{fullShare} k) : sProp 𝕄) := by
  classical
  iintro ⟨Hf, Hg⟩
  iexists (fun i => if i ∈ S then f i else g i)
  iapply (pointsTo_union h).2
  isplitl [Hf]
  · iapply (Entails.of_eq (pointsTo_congr fun i hi => (if_pos hi).symm)) $$ Hf
  · iapply (Entails.of_eq (pointsTo_congr fun i hi => (if_neg (Finset.disjoint_right.1 h hi)).symm)) $$ Hg

/-! ## The landing buffers -/

def landAny (d : Bool) (c : Dev nD) (S : Finset S8x256x4096.Idx) : sProp 𝕄 := iprop(∃ g, land (F := F) d c fullShare S g)

/-- Slots `a` to `b`. -/
def rs (a b : ℕ) : Finset S8x256x4096.Idx := Finset.univ.filter fun i => a ≤ (i 0).val ∧ (i 0).val < b
theorem mem_rs {a b : ℕ} {i : S8x256x4096.Idx} : i ∈ rs a b ↔ a ≤ (i 0).val ∧ (i 0).val < b := by
  unfold rs; rw [Finset.mem_filter]; exact ⟨fun h => h.2, fun h => ⟨Finset.mem_univ _, h⟩⟩
/-- The half of the last slot that is filled, and all that is filled of a landing buffer. -/
def halfRg (d : Bool) : Finset S8x256x4096.Idx := if d then rg 7 0 128 else rg 7 128 256
def filled (d : Bool) : Finset S8x256x4096.Idx := rs 0 7 ∪ halfRg d

theorem piece_disj (d : Bool) : ∀ p ∈ (Finset.univ : Finset (Fin 8 × Fin 2)), ∀ p' ∈ (Finset.univ : Finset (Fin 8 × Fin 2)), p ≠ p' →
    Disjoint (piece (d, p)) (piece (d, p')) := by
  rintro ⟨h, j⟩ _ ⟨h', j'⟩ _ hne
  rw [Finset.disjoint_left]; intro i h1 h2
  unfold piece at h1 h2
  have h1 := mem_rg.1 h1
  have h2 := mem_rg.1 h2
  have e : h = h' := Fin.ext (h1.1.symm.trans h2.1)
  subst e
  have hj : j.val ≠ j'.val := fun e => hne (by rw [Fin.ext e])
  unfold lo len at h1 h2
  dsimp only at h1 h2
  by_cases h7 : h = 7
  · simp only [if_pos h7] at h1 h2; cases d <;> simp at h1 h2 <;> omega
  · simp only [if_neg h7] at h1 h2; omega
theorem piece_all (d : Bool) : (Finset.univ : Finset (Fin 8 × Fin 2)).biUnion (fun p => piece (d, p)) = filled d := by
  ext i
  have h0 : (i 0).val < 8 := (i 0).isLt
  have h1 : (i 1).val < 256 := (i 1).isLt
  have ex : (i ∈ Finset.univ.biUnion fun p : Fin 8 × Fin 2 => piece (d, p)) ↔ ∃ (h : Fin 8) (j : Fin 2), i ∈ piece (d, h, j) := by
    rw [Finset.mem_biUnion]
    exact ⟨fun ⟨⟨h, j⟩, _, hp⟩ => ⟨h, j, hp⟩, fun ⟨h, j, hp⟩ => ⟨(h, j), Finset.mem_univ _, hp⟩⟩
  rw [ex]
  unfold filled halfRg
  rw [Finset.mem_union, mem_rs]
  constructor
  · rintro ⟨h, j, hp⟩
    rcases eq_or_ne h 7 with rfl | hne
    · rw [piece_quarter] at hp
      have hp := mem_rg.1 hp
      right
      cases d
      · rw [if_neg Bool.false_ne_true, mem_rg]; unfold qk at hp; dsimp only at hp; omega
      · rw [if_pos rfl, mem_rg]; unfold qk at hp; dsimp only at hp; omega
    · have hh : h.val < 7 := by have := h.isLt; have : h.val ≠ 7 := fun e => hne (Fin.ext e); omega
      rw [show h = (⟨h.val, hh⟩ : Fin 7).castSucc from rfl, piece_half] at hp
      have hp := mem_rg.1 hp
      left; dsimp only at hp; omega
  · rintro (hs | hh)
    · refine ⟨(⟨(i 0).val, hs.2⟩ : Fin 7).castSucc, ⟨(i 1).val / 128, by omega⟩, ?_⟩
      rw [piece_half, mem_rg]; dsimp only; omega
    · cases d
      · rw [if_neg Bool.false_ne_true, mem_rg] at hh
        refine ⟨7, ⟨((i 1).val - 128) / 64, by omega⟩, ?_⟩
        rw [piece_quarter, mem_rg]; unfold qk; dsimp only; omega
      · rw [if_pos rfl, mem_rg] at hh
        refine ⟨7, ⟨(i 1).val / 64, by omega⟩, ?_⟩
        rw [piece_quarter, mem_rg]; unfold qk; dsimp only; omega

theorem landAny_join (d : Bool) (c : Dev nD) {S T : Finset S8x256x4096.Idx} (h : Disjoint S T) :
    iprop(landAny (F := F) d c S ∗ landAny (F := F) d c T) ⊢ landAny (F := F) d c (S ∪ T) := by
  unfold landAny
  iintro ⟨⟨%f, Hf⟩, ⟨%g, Hg⟩⟩
  unfold land
  cases d
  · ihave H := (any_join (ℓ := (c : Thread nD τ).loc cc0_scratch3) h f g) $$ [Hf Hg]
    · isplitl [Hf]; · iexact Hf
      iexact Hg
    iexact H
  · ihave H := (any_join (ℓ := (c : Thread nD τ).loc cc0_scratch2) h f g) $$ [Hf Hg]
    · isplitl [Hf]; · iexact Hf
      iexact Hg
    iexact H

theorem free_intro (d : Bool) (c : Dev nD) (p : Fin 8 × Fin 2) (g : FVec F S8x256x4096 .fp8e4m3) :
    land (F := F) d c fullShare (piece (d, p)) g ⊢ freeP (F := F) c (d, p) := by
  unfold freeP; iintro H; iexists g; iexact H

/-- The unfilled half slot is kept; the pieces of the rest are for the neighbour. -/
theorem land_hand (d : Bool) (c : Dev nD) : landAny (F := F) d c Finset.univ ⊢ iprop(handP (F := F) c d ∗ landAny (F := F) d c (Finset.univ \ filled d)) := by
  unfold landAny handP
  iintro ⟨%g, Hg⟩
  have hm : bigSep (Finset.univ : Finset (Fin 8 × Fin 2)) (fun p => land (F := F) d c fullShare (piece (d, p)) g)
      ⊢ bigSep (Finset.univ : Finset (Fin 8 × Fin 2)) (fun p => freeP (F := F) c (d, p)) :=
    bigSep_mono fun p _ => free_intro d c p g
  ihave Hs := (Entails.of_eq (land_union d c fullShare g (S := filled d) (T := Finset.univ \ filled d) (U := Finset.univ)
    Finset.disjoint_sdiff (Finset.union_sdiff_of_subset (Finset.subset_univ _)))) $$ Hg
  icases Hs with ⟨Ha, Hb⟩
  isplitr [Hb]
  · ihave Hc := (show land d c fullShare (filled d) g ⊢ bigSep (Finset.univ : Finset (Fin 8 × Fin 2)) (fun p => land (F := F) d c fullShare (piece (d, p)) g) from by
      rw [← piece_all d]
      cases d
      · exact Entails.of_eq (pointsTo_biUnion _ _ (piece_disj false))
      · exact Entails.of_eq (pointsTo_biUnion _ _ (piece_disj true))) $$ Ha
    iapply hm $$ Hc
  · iexists g; iexact Hb

/-- Slots gathered in order. -/
theorem land_stack (d : Bool) (c : Dev nD) (n : ℕ) (f : FVec F S8x256x4096 .fp8e4m3) :
    iprop(land d c fullShare (rs 0 n) f ∗ land d c fullShare (rg n 0 256) f) = land d c fullShare (rs 0 (n + 1)) f := by
  refine (land_union d c fullShare f ?_ ?_).symm
  · rw [Finset.disjoint_left]; intro i h1 h2; have := mem_rs.1 h1; have := mem_rg.1 h2; omega
  · ext i
    have h1 : (i 1).val < 256 := (i 1).isLt
    rw [Finset.mem_union, mem_rs, mem_rg, mem_rs]; omega
theorem rs_one : rs 0 1 = rg 0 0 256 := by
  ext i
  have h1 : (i 1).val < 256 := (i 1).isLt
  rw [mem_rs, mem_rg]; omega

def restD (d : Bool) (c : Dev nD) : sProp 𝕄 := land d c fullShare.left (if d then rg 6 128 256 else rg 6 0 128) (G m d c)
/-- The slots at the share kept for the product. -/
def slots (d : Bool) (c : Dev nD) : sProp 𝕄 :=
  iprop(slotP m d c 0 ∗ slotP m d c 1 ∗ slotP m d c 2 ∗ slotP m d c 3 ∗ slotP m d c 4 ∗ slotP m d c 5 ∗ slotP m d c 6)

theorem srcP_later (d : Bool) (c : Dev nD) (h : Fin 6) (j : Fin 2) :
    srcP m c (d, h.succ.castSucc, j) = land d c fullShare.left (rg h.val (128 * j.val) (128 * j.val + 128)) (G m d c) := by
  unfold srcP
  rw [if_neg (show ¬ ((d, h.succ.castSucc, j) : Flow).2.1.val = 0 from Nat.succ_ne_zero h.val)]
  have e : ¬ (h.succ.castSucc : Fin 8) = 7 := fun e => by have := congrArg Fin.val e; have h7 : h.val + 1 = 7 := this; have := h.isLt; omega
  unfold fromPiece lo len
  dsimp only
  rw [if_neg e, if_neg e]
  rfl
theorem srcP_last (d : Bool) (c : Dev nD) (j : Fin 2) :
    srcP m c (d, 7, j) = land d c fullShare.left (rg 6 (64 * (qk d j).val) (64 * (qk d j).val + 64)) (G m d c) := by
  unfold srcP
  rw [if_neg (show ¬ ((d, 7, j) : Flow).2.1.val = 0 from Nat.succ_ne_zero 6)]
  unfold fromPiece lo len qk
  cases d <;> dsimp only <;> rw [if_pos rfl, if_pos rfl]
  · rw [if_neg Bool.false_ne_true]
    show land false c fullShare.left (rg 6 (128 + 64 * j.val) (128 + 64 * j.val + 64)) _ = land false c fullShare.left (rg 6 (64 * (2 + j.val)) (64 * (2 + j.val) + 64)) _
    rw [show 64 * (2 + j.val) = 128 + 64 * j.val by omega]
  · rw [if_pos rfl]; rfl

theorem slot_back (d : Bool) (c : Dev nD) (h : Fin 6) :
    iprop(D2 (srcP m c) d h.succ.castSucc ∗ slotP m d c h.val) ⊢ land d c fullShare (rg h.val 0 256) (G m d c) := by
  unfold D2 slotP
  rw [srcP_later, srcP_later, show iprop(land d c fullShare.left (rg h.val (128 * (0 : Fin 2).val) (128 * (0 : Fin 2).val + 128)) (G m d c)
    ∗ land d c fullShare.left (rg h.val (128 * (1 : Fin 2).val) (128 * (1 : Fin 2).val + 128)) (G m d c)) = land d c fullShare.left (rg h.val 0 256) (G m d c) from
    land_join d c fullShare.left (h := h.val) (a := 0) (b := 128) (e := 256) (G m d c) (by decide) (by decide)]
  exact land_merge d c _ _
theorem slot_back_six (d : Bool) (c : Dev nD) :
    iprop((D2 (srcP m c) d 7 ∗ restD m d c) ∗ slotP m d c 6) ⊢ land d c fullShare (rg 6 0 256) (G m d c) := by
  unfold D2 slotP restD
  rw [srcP_last, srcP_last]
  refine BIBase.Entails.trans (sep_mono_left ?_) (land_merge d c _ _)
  cases d
  · rw [if_neg Bool.false_ne_true, show iprop(land false c fullShare.left (rg 6 (64 * (qk false 0).val) (64 * (qk false 0).val + 64)) (G m false c)
      ∗ land false c fullShare.left (rg 6 (64 * (qk false 1).val) (64 * (qk false 1).val + 64)) (G m false c)) = land false c fullShare.left (rg 6 128 256) (G m false c) from
      land_join false c fullShare.left (h := 6) (a := 128) (b := 192) (e := 256) (G m false c) (by decide) (by decide)]
    exact BIBase.Entails.trans sep_comm.1 (Entails.of_eq (land_join false c fullShare.left (h := 6) (a := 0) (b := 128) (e := 256) (G m false c) (by decide) (by decide)))
  · rw [if_pos rfl, show iprop(land true c fullShare.left (rg 6 (64 * (qk true 0).val) (64 * (qk true 0).val + 64)) (G m true c)
      ∗ land true c fullShare.left (rg 6 (64 * (qk true 1).val) (64 * (qk true 1).val + 64)) (G m true c)) = land true c fullShare.left (rg 6 0 128) (G m true c) from
      land_join true c fullShare.left (h := 6) (a := 0) (b := 64) (e := 128) (G m true c) (by decide) (by decide)]
    exact Entails.of_eq (land_join true c fullShare.left (h := 6) (a := 0) (b := 128) (e := 256) (G m true c) (by decide) (by decide))

/-- The landing buffer whole again. -/
theorem land_back (d : Bool) (c : Dev nD) :
    iprop(D8 (srcP m c) d ∗ slots m d c ∗ restD m d c ∗ halfP m d c ∗ landAny (F := F) d c (Finset.univ \ filled d))
      ⊢ iprop(D2 (srcP m c) d 0 ∗ landAny (F := F) d c Finset.univ) := by
  unfold D8 slots
  iintro ⟨⟨H0, H1, H2, H3, H4, H5, H6, H7⟩, ⟨S0, S1, S2, S3, S4, S5, S6⟩, Hr, Hh, Hk⟩
  isplitl [H0]; · iexact H0
  ihave T0 := (slot_back m d c 0) $$ [H1 S0]
  · isplitl [H1]; · iexact H1
    iexact S0
  ihave T1 := (slot_back m d c 1) $$ [H2 S1]
  · isplitl [H2]; · iexact H2
    iexact S1
  ihave T2 := (slot_back m d c 2) $$ [H3 S2]
  · isplitl [H3]; · iexact H3
    iexact S2
  ihave T3 := (slot_back m d c 3) $$ [H4 S3]
  · isplitl [H4]; · iexact H4
    iexact S3
  ihave T4 := (slot_back m d c 4) $$ [H5 S4]
  · isplitl [H5]; · iexact H5
    iexact S4
  ihave T5 := (slot_back m d c 5) $$ [H6 S5]
  · isplitl [H6]; · iexact H6
    iexact S5
  ihave T6 := (slot_back_six m d c) $$ [H7 Hr S6]
  · isplitl [H7 Hr]
    · isplitl [H7]; · iexact H7
      iexact Hr
    iexact S6
  ihave U0 := (Entails.of_eq (show land d c fullShare (rg (0 : Fin 6).val 0 256) (G m d c) = land d c fullShare (rs 0 1) (G m d c) from by rw [rs_one]; rfl)) $$ T0
  ihave U1 := (Entails.of_eq (land_stack d c 1 (G m d c))) $$ [U0 T1]
  · isplitl [U0]; · iexact U0
    iexact T1
  ihave U2 := (Entails.of_eq (land_stack d c 2 (G m d c))) $$ [U1 T2]
  · isplitl [U1]; · iexact U1
    iexact T2
  ihave U3 := (Entails.of_eq (land_stack d c 3 (G m d c))) $$ [U2 T3]
  · isplitl [U2]; · iexact U2
    iexact T3
  ihave U4 := (Entails.of_eq (land_stack d c 4 (G m d c))) $$ [U3 T4]
  · isplitl [U3]; · iexact U3
    iexact T4
  ihave U5 := (Entails.of_eq (land_stack d c 5 (G m d c))) $$ [U4 T5]
  · isplitl [U4]; · iexact U4
    iexact T5
  ihave U6 := (Entails.of_eq (land_stack d c 6 (G m d c))) $$ [U5 T6]
  · isplitl [U5]; · iexact U5
    iexact T6
  ihave U7 := (Entails.of_eq (land_union d c fullShare (G m d c) (S := rs 0 7) (T := halfRg d) (U := filled d) (by
    rw [Finset.disjoint_left]; intro i h1 h2
    have h1 := mem_rs.1 h1
    unfold halfRg at h2
    cases d
    · rw [if_neg Bool.false_ne_true] at h2; have := mem_rg.1 h2; omega
    · rw [if_pos rfl] at h2; have := mem_rg.1 h2; omega) rfl).symm) $$ [U6 Hh]
  · isplitl [U6]; · iexact U6
    unfold halfP halfRg; iexact Hh
  ihave V := (landAny_join (F := F) d c (S := filled d) (T := Finset.univ \ filled d) Finset.disjoint_sdiff) $$ [U7 Hk]
  · isplitl [U7]; · unfold landAny; iexists _; iexact U7
    iexact Hk
  iapply (Entails.of_eq (congrArg (landAny (F := F) d c) (Finset.union_sdiff_of_subset (Finset.subset_univ (filled d))))) $$ V

/-! ## The narrowed block -/

theorem x8_half_eq (c : Dev nD) (j : Fin 2) :
    x8P c fullShare (rw2 256 4096 (128 * j.val) (128 * j.val + 128)) (X m c)
      = iprop((srcP m c (true, 0, j) ∗ srcP m c (false, 0, j)) ∗ x8P c fullShare.right (rw2 256 4096 (128 * j.val) (128 * j.val + 128)) (X m c)) :=
  (x8_three c _ (X m c)).trans rfl

theorem x8_back (c : Dev nD) :
    iprop((D2 (srcP m c) true 0 ∗ D2 (srcP m c) false 0) ∗ x8P c fullShare.right Finset.univ (X m c)) ⊢ x8P c fullShare Finset.univ (X m c) := by
  rw [show (Finset.univ : Finset S256x4096.Idx) = rw2 256 4096 0 256 from rw2_all.symm,
    ← x8_join c fullShare (X m c) (a := 0) (b := 128) (e := 256) (by decide) (by decide),
    ← x8_join c fullShare.right (X m c) (a := 0) (b := 128) (e := 256) (by decide) (by decide)]
  unfold D2
  iintro ⟨⟨⟨A0, A1⟩, ⟨B0, B1⟩⟩, Q0, Q1⟩
  isplitl [A0 B0 Q0]
  · iapply (Entails.of_eq (x8_half_eq m c 0).symm)
    isplitl [A0 B0]
    · isplitl [A0]; · iexact A0
      iexact B0
    iexact Q0
  · iapply (Entails.of_eq (x8_half_eq m c 1).symm)
    isplitl [A1 B1]
    · isplitl [A1]; · iexact A1
      iexact B1
    iexact Q1

/-! ## The double buffers -/

theorem sl2_disj {A B : ℕ} : Disjoint (sl2 A B 0) (sl2 A B 1) := by
  rw [Finset.disjoint_left]; intro i h1 h2; have := mem_sl2.1 h1; have := mem_sl2.1 h2; omega
theorem sl2_all {A B : ℕ} : sl2 A B 0 ∪ sl2 A B 1 = Finset.univ := by
  ext i
  have h : (i 0).val < 2 := (i 0).isLt
  rw [Finset.mem_union, mem_sl2, mem_sl2]
  exact ⟨fun _ => Finset.mem_univ _, fun _ => by omega⟩
theorem sl2_cut {ℓ : Loc nD τ sig} {S T : Finset (Idx ℓ)} (h : Disjoint S T) (hu : S ∪ T = Finset.univ) (f : Buf (Elt F) ℓ) :
    (ℓ ↦{fullShare} f) ⊢ (iprop((ℓ ↦[S]{fullShare} f) ∗ (ℓ ↦[T]{fullShare} f)) : sProp 𝕄) := by
  rw [← hu]; exact (pointsTo_union h).1

/-- A whole buffer with anything in it. -/
def anyP (c : Dev nD) (b : Ref sig .tc) : sProp 𝕄 := iprop(∃ f : Buf (Elt F) ((c : Thread nD τ).loc b), ((c : Thread nD τ).loc b) ↦{fullShare} f)

theorem sx_cut (c : Dev nD) : anyP (F := F) c cc0_scratch4 ⊢ iprop(stXAny (F := F) c 0 ∗ stXAny (F := F) c 1) := by
  unfold anyP stXAny sxP
  iintro ⟨%f, H⟩
  ihave H' := (sl2_cut (ℓ := (c : Thread nD τ).loc cc0_scratch4) (S := sl2 64 4096 0) (T := sl2 64 4096 1) sl2_disj sl2_all f) $$ H
  icases H' with ⟨Ha, Hb⟩
  isplitl [Ha]; · iexists f; iexact Ha
  iexists f; iexact Hb
theorem sx_back (c : Dev nD) : iprop(stXAny (F := F) c 0 ∗ stXAny (F := F) c 1) ⊢ anyP (F := F) c cc0_scratch4 := by
  unfold anyP stXAny sxP
  rw [← show sl2 64 4096 0 ∪ sl2 64 4096 1 = (Finset.univ : Finset (Idx ((c : Thread nD τ).loc cc0_scratch4))) from sl2_all]
  iintro ⟨⟨%f, Ha⟩, ⟨%g, Hb⟩⟩
  iapply (any_join (ℓ := (c : Thread nD τ).loc cc0_scratch4) (S := sl2 64 4096 0) (T := sl2 64 4096 1) sl2_disj f g)
  isplitl [Ha]; · iexact Ha
  iexact Hb
theorem sw_cut (c : Dev nD) : anyP (F := F) c cc0_scratch5 ⊢ iprop(stWAny (F := F) c 0 ∗ stWAny (F := F) c 1) := by
  unfold anyP stWAny swP
  iintro ⟨%f, H⟩
  ihave H' := (sl2_cut (ℓ := (c : Thread nD τ).loc cc0_scratch5) (S := sl2 512 512 0) (T := sl2 512 512 1) sl2_disj sl2_all f) $$ H
  icases H' with ⟨Ha, Hb⟩
  isplitl [Ha]; · iexists f; iexact Ha
  iexists f; iexact Hb
theorem sw_back (c : Dev nD) : iprop(stWAny (F := F) c 0 ∗ stWAny (F := F) c 1) ⊢ anyP (F := F) c cc0_scratch5 := by
  unfold anyP stWAny swP
  rw [← show sl2 512 512 0 ∪ sl2 512 512 1 = (Finset.univ : Finset (Idx ((c : Thread nD τ).loc cc0_scratch5))) from sl2_all]
  iintro ⟨⟨%f, Ha⟩, ⟨%g, Hb⟩⟩
  iapply (any_join (ℓ := (c : Thread nD τ).loc cc0_scratch5) (S := sl2 512 512 0) (T := sl2 512 512 1) sl2_disj f g)
  isplitl [Ha]; · iexact Ha
  iexact Hb
theorem bd_cut (c : Dev nD) : anyP (F := F) c cc0_scratch6 ⊢ iprop(bdFree (F := F) c 0 ∗ bdFree (F := F) c 1) := by
  unfold anyP bdFree bdP
  iintro ⟨%f, H⟩
  ihave H' := (sl2_cut (ℓ := (c : Thread nD τ).loc cc0_scratch6) (S := sl2 256 512 0) (T := sl2 256 512 1) sl2_disj sl2_all f) $$ H
  icases H' with ⟨Ha, Hb⟩
  isplitl [Ha]; · iexists f; iexact Ha
  iexists f; iexact Hb
theorem bd_back (c : Dev nD) : iprop(bdFree (F := F) c 0 ∗ bdFree (F := F) c 1) ⊢ anyP (F := F) c cc0_scratch6 := by
  unfold anyP bdFree bdP
  rw [← show sl2 256 512 0 ∪ sl2 256 512 1 = (Finset.univ : Finset (Idx ((c : Thread nD τ).loc cc0_scratch6))) from sl2_all]
  iintro ⟨⟨%f, Ha⟩, ⟨%g, Hb⟩⟩
  iapply (any_join (ℓ := (c : Thread nD τ).loc cc0_scratch6) (S := sl2 256 512 0) (T := sl2 256 512 1) sl2_disj f g)
  isplitl [Ha]; · iexact Ha
  iexact Hb

/-! ## The result -/

theorem outRows_disj : ∀ o ∈ (Finset.univ : Finset (Dev nD)), ∀ o' ∈ (Finset.univ : Finset (Dev nD)), o ≠ o' → Disjoint (outRows o) (outRows o') := by
  intro p _ p' _ h
  have hv : p.val ≠ p'.val := fun e => h (Fin.ext e)
  rw [Finset.disjoint_left]; intro i h1 h2; have := mem_rw2.1 h1; have := mem_rw2.1 h2; omega
theorem outRows_all : (Finset.univ : Finset (Dev nD)).biUnion outRows = Finset.univ := by
  ext i
  have hi : (i 0).val < 4096 := (i 0).isLt
  refine ⟨fun _ => Finset.mem_univ _, fun _ => Finset.mem_biUnion.2 ⟨⟨(i 0).val / 256, by show _ < 16; omega⟩, Finset.mem_univ _, mem_rw2.2 ?_⟩⟩
  show 256 * ((i 0).val / 256) ≤ (i 0).val ∧ (i 0).val < 256 * ((i 0).val / 256) + 256
  omega

/-- A resource of each device's rows, in the order device `c` makes them. -/
def E16 (c : Dev nD) (Φ : Dev nD → sProp 𝕄) : sProp 𝕄 :=
  iprop(Φ c ∗ Φ (org true c 1) ∗ Φ (org false c 1) ∗ Φ (org true c 2) ∗ Φ (org false c 2) ∗ Φ (org true c 3) ∗ Φ (org false c 3)
    ∗ Φ (org true c 4) ∗ Φ (org false c 4) ∗ Φ (org true c 5) ∗ Φ (org false c 5) ∗ Φ (org true c 6) ∗ Φ (org false c 6)
    ∗ Φ (org true c 7) ∗ Φ (org false c 7) ∗ Φ (org false c 8))
theorem bigSep_devs (c : Dev nD) (Φ : Dev nD → sProp 𝕄) : bigSep Finset.univ Φ = E16 c Φ := by
  rw [bigSep_univ_eq_bigSepL [c, org true c 1, org false c 1, org true c 2, org false c 2, org true c 3, org false c 3, org true c 4, org false c 4,
    org true c 5, org false c 5, org true c 6, org false c 6, org true c 7, org false c 7, org false c 8]
    (by revert c; decide) (by revert c; decide)]
  unfold E16
  simp only [bigSepL_cons_cons, bigSepL_singleton]
  rfl

theorem out_pieces (c : Dev nD) (f : FVec F S4096x512 .f32) : oP c Finset.univ f = bigSep Finset.univ fun o => oP c (outRows o) f := by
  rw [← outRows_all]
  unfold oP
  exact pointsTo_biUnion _ _ outRows_disj
theorem oFree_intro (c o : Dev nD) (f : FVec F S4096x512 .f32) : oP c (outRows o) f ⊢ oFree (F := F) c o := by
  unfold oFree; iintro H; iexists f; iexact H
theorem out_cut (c : Dev nD) (f : FVec F S4096x512 .f32) : oP c Finset.univ f ⊢ E16 c (oFree (F := F) c) := by
  rw [← bigSep_devs, out_pieces]
  exact bigSep_mono fun o _ => oFree_intro c o f
theorem out_back (c : Dev nD) : E16 c (oDone m c) ⊢ oP c Finset.univ (outV m c) := by
  rw [← bigSep_devs, out_pieces]
  exact BIBase.Entails.rfl

end Cert.Ring
-- ==== Proof.Body.lean ====
/-
# A device's run

The steps of the body one after another: from a device's part of the ring's set-up and its buffers to the finished block of the result, its
buffers back whole and every semaphore at rest.
-/
module

public import proofs.«01_k».proof.Proof.Pieces
@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ
variable (m : (ℓ : Loc nD τ sig) → Buf (Elt F) ℓ) (K : Dev nD × Cell → ℕ)

/-! ## The devices the kernel names -/

theorem dev_prv : ∀ c : Dev nD, (⟨k0_dev1 c, k0_dev1_lt c⟩ : Dev nD) = prv c := by decide +kernel
theorem dev_nxt : ∀ c : Dev nD, (⟨k0_dev2 c, k0_dev2_lt c⟩ : Dev nD) = nxt c := by decide +kernel

/-! ## What a device starts from and ends with -/

/-- What the ring's set-up hands a device for a piece it sends. -/
def sendTok (c : Dev nD) (f : Flow) : sProp 𝕄 :=
  iprop(dutyTok (ER : Emb UB 𝕄) (sendAt c f) 0 false ∗ dutyTok (ER : Emb UB 𝕄) (recvAt (nb f.1 c) f) 0 false ∗ atPos (ER : Emb UB 𝕄) (sendAt c f) 0 ∅ 0)
theorem sendRes_intro (c : Dev nD) (f : Flow) : iprop(sendTok (F := F) c f ∗ nbFree (F := F) c f) ⊢ sendRes (F := F) c f := by
  unfold sendTok sendRes
  iintro ⟨⟨A, B, C⟩, D⟩
  iframe A B C D
theorem sendRes_all (c : Dev nD) : iprop(bigSep Finset.univ (sendTok (F := F) c) ∗ bigSep Finset.univ (nbFree (F := F) c)) ⊢ bigSep Finset.univ (sendRes (F := F) c) := by
  have hm : bigSep Finset.univ (fun f => iprop(sendTok (F := F) c f ∗ nbFree (F := F) c f)) ⊢ bigSep Finset.univ (sendRes (F := F) c) :=
    bigSep_mono fun f _ => sendRes_intro c f
  exact BIBase.Entails.trans (Entails.of_eq (BI.bigSep_sep Finset.univ (sendTok (F := F) c) (nbFree (F := F) c)).symm) hm

/-- A piece's semaphore on the sender's side at rest. -/
def closedS (c : Dev nD) (f : Flow) : sProp 𝕄 := semVal (sendAt c f) 0
theorem left_split (c : Dev nD) (d : Bool) : D8 (leftP m c) d ⊢ iprop(D8 (srcP m c) d ∗ D8 (closedS (F := F) c) d) := by
  rw [← bigSep_dir, ← bigSep_dir, ← bigSep_dir]
  exact Entails.of_eq (BI.bigSep_sep Finset.univ (fun p => srcP m c (d, p)) (fun p => closedS (F := F) c (d, p)))

/-- The barrier's part of the set-up, and what the device owes. -/
def barStart (c : Dev nD) : sProp 𝕄 :=
  iprop((∃ V, owes (c : Thread nD τ) (O₀ c) V) ∗ (cred (tallyAt (barAt c) () 2) ∗ atPos (ER : Emb UB 𝕄) (barAt c) 0 ∅ 0)
    ∗ (dutyTok (ER : Emb UB 𝕄) (barAt (prv c)) 0 true ∗ dutyTok (ER : Emb UB 𝕄) (barAt (nxt c)) 0 false))
/-- The buffers used inside the body, whole, with anything in them. -/
def scr (c : Dev nD) : sProp 𝕄 :=
  iprop(anyP (F := F) c cc0_scratch0 ∗ anyP (F := F) c cc0_scratch1 ∗ anyP (F := F) c cc0_scratch2 ∗ anyP (F := F) c cc0_scratch3
    ∗ anyP (F := F) c cc0_scratch4 ∗ anyP (F := F) c cc0_scratch5 ∗ anyP (F := F) c cc0_scratch6)
/-- The semaphores of the copies inside the device, at rest. -/
def zx (c : Dev nD) : sProp 𝕄 := iprop(zeroD (F := F) c (semX 0) ∗ zeroD (F := F) c (semX 1) ∗ zeroD (F := F) c (semX 2) ∗ zeroD (F := F) c (semX 3))
def zw (c : Dev nD) : sProp 𝕄 := E8 fun p => zeroD (F := F) c (semW p)
def zb (c : Dev nD) : sProp 𝕄 := iprop(zeroD (F := F) c (semB 0) ∗ zeroD (F := F) c (semB 1))

def bodyStart (c : Dev nD) : sProp 𝕄 :=
  iprop(barStart (F := F) c ∗ bigSep Finset.univ (sendTok (F := F) c) ∗ bigSep Finset.univ (recvRes (F := F) c) ∗ xP c Finset.univ (xin m c)
    ∗ wP c Finset.univ (win m c) ∗ (∃ g, oP (F := F) c Finset.univ g) ∗ scr (F := F) c ∗ (zx (F := F) c ∗ zw (F := F) c ∗ zb (F := F) c) ∗ aP m c ∗ bP m c)
def bodyEnd (c : Dev nD) : sProp 𝕄 :=
  iprop(Ow (F := F) c [] ∗ semVal (barAt c) 0 ∗ bigSep Finset.univ (closedS (F := F) c) ∗ bigSep Finset.univ (closedR (F := F) c) ∗ xP c Finset.univ (xin m c)
    ∗ wP c Finset.univ (win m c) ∗ oP c Finset.univ (outV m c) ∗ scr (F := F) c ∗ (zx (F := F) c ∗ zw (F := F) c ∗ zb (F := F) c) ∗ aP m c ∗ bP m c)

/-! ## Whole buffers under their names -/

theorem x8_any (c : Dev nD) : anyP (F := F) c cc0_scratch0 ⊢ iprop(∃ g, x8P (F := F) c fullShare Finset.univ g) := BIBase.Entails.rfl
theorem x8_any' (c : Dev nD) (g : FVec F S256x4096 .fp8e4m3) : x8P c fullShare Finset.univ g ⊢ anyP (F := F) c cc0_scratch0 := by
  unfold anyP x8P; iintro H; iexists g; iexact H
theorem w8_any (c : Dev nD) : anyP (F := F) c cc0_scratch1 ⊢ iprop(∃ g, w8P (F := F) c Finset.univ g) := BIBase.Entails.rfl
theorem w8_any' (c : Dev nD) (g : FVec F S4096x512 .fp8e4m3) : w8P c Finset.univ g ⊢ anyP (F := F) c cc0_scratch1 := by
  unfold anyP w8P; iintro H; iexists g; iexact H
theorem landR_any (c : Dev nD) : anyP (F := F) c cc0_scratch2 = landAny (F := F) true c Finset.univ := rfl
theorem landL_any (c : Dev nD) : anyP (F := F) c cc0_scratch3 = landAny (F := F) false c Finset.univ := rfl

/-! ## A turn of the ring -/

/-- A hop and the two bands that follow it: slot `n`'s rows are passed on and multiplied, the bands before them finished. -/
theorem turn (c n₁ n₂ n₃ n₄ : Dev nD) (h₁ : n₁ = nxt c) (h₂ : n₂ = prv c) (h₃ : n₃ = nxt c) (h₄ : n₄ = prv c) (h : Fin 5) {α : Type}
    (k : PUnit → P (F := F) α) (Q : α → sProp 𝕄) :
    iprop(recs m K ∗ Ow c (rem (h.val + 2)) ∗ S4 (sendRes (F := F) c) h.succ.castSucc.succ ∗ S4 (recvRes (F := F) c) h.succ.castSucc.castSucc
        ∗ w8P c Finset.univ (W m c) ∗ flB m c 1 (org true c (h.val + 1)) ∗ flB m c 0 (org false c (h.val + 1))
        ∗ oFree (F := F) c (org true c (h.val + 2)) ∗ oFree (F := F) c (org false c (h.val + 2)))
      ⊢ iprop((iprop(Ow c (rem (h.val + 3)) ∗ S4 (sentRes (F := F) c) h.succ.castSucc.succ ∗ S4 (closedR (F := F) c) h.succ.castSucc.castSucc
          ∗ slotP m true c (h.val + 1) ∗ slotP m false c (h.val + 1)
          ∗ w8P c Finset.univ (W m c) ∗ oDone m c (org true c (h.val + 1)) ∗ oDone m c (org false c (h.val + 1))
          ∗ flB m c 1 (org true c (h.val + 2)) ∗ flB m c 0 (org false c (h.val + 2))) -∗ wp frame (wpE defs₀ 𝒱₀ (c : Thread nD τ) none) Set.univ (k ⟨⟩) Q)
        -∗ wp frame (wpE defs₀ 𝒱₀ (c : Thread nD τ) none) Set.univ (hop h.succ n₁ n₂ n₃ n₄ >>= fun _ => bands (sc m c) c h.castSucc >>= k) Q) := by
  iintro ⟨#Hrec, HO, Hs, Hr, Hw, Hf1, Hf0, Ho1, Ho0⟩ Hk
  iapply (Tr.step (tr_hop m K h.succ c n₁ n₂ n₃ n₄ h₁ h₂ h₃ h₄) _ Q) $$ [HO Hs Hr]
  · isplitr; · iexact Hrec
    isplitl [HO]; · iexact HO
    isplitl [Hs]; · iexact Hs
    iexact Hr
  iintro ⟨HO, Hs, Hr, Sr, Sl⟩
  iapply (Tr.step (tr_bands m K c h.castSucc (rem (h.val + 3))) _ Q) $$ [HO Hw Sr Sl Hf1 Hf0 Ho1 Ho0]
  · isplitr; · iexact Hrec
    isplitl [HO]; · iexact HO
    isplitl [Hw]; · iexact Hw
    isplitl [Sr]; · iexact Sr
    isplitl [Sl]; · iexact Sl
    isplitl [Hf1]; · iexact Hf1
    isplitl [Hf0]; · iexact Hf0
    isplitl [Ho1]; · iexact Ho1
    iexact Ho0
  iintro ⟨HO, Hw, Sr, Sl, D1, D0, Hf1, Hf0⟩
  iapply Hk
  isplitl [HO]; · iexact HO
  isplitl [Hs]; · iexact Hs
  isplitl [Hr]; · iexact Hr
  isplitl [Sr]; · iexact Sr
  isplitl [Sl]; · iexact Sl
  isplitl [Hw]; · iexact Hw
  isplitl [D1]; · iexact D1
  isplitl [D0]; · iexact D0
  isplitl [Hf1]; · iexact Hf1
  iexact Hf0

/-! ## The body -/

/-- After the first hop: what the turns start from. -/
def firstPost (c : Dev nD) : sProp 𝕄 :=
  iprop(Ow c (rem 2) ∗ semVal (barAt c) 0 ∗ (S4 (sendRes (F := F) c) 2 ∗ S4 (sendRes (F := F) c) 3 ∗ S4 (sendRes (F := F) c) 4 ∗ S4 (sendRes (F := F) c) 5
      ∗ S4 (sendRes (F := F) c) 6 ∗ S4 (sendRes (F := F) c) 7)
    ∗ (S4 (sentRes (F := F) c) 0 ∗ S4 (sentRes (F := F) c) 1) ∗ S4 (closedR (F := F) c) 0 ∗ xP c Finset.univ (xin m c)
    ∗ (stXAny (F := F) c 0 ∗ stXAny (F := F) c 1) ∗ zx (F := F) c ∗ x8P c fullShare.right Finset.univ (X m c)
    ∗ wPost m c ∗ (slotP m true c 0 ∗ slotP m false c 0) ∗ flB m c 0 c ∗ aP m c ∗ bP m c)

/-- Up to the first hop. -/
theorem first (c n₁ n₂ a₁ a₂ a₃ a₄ b₁ b₂ b₃ b₄ : Dev nD) (e₁ : n₁ = prv c) (e₂ : n₂ = nxt c) (h₁ : a₁ = nxt c) (h₂ : a₂ = prv c) (h₃ : a₃ = nxt c)
    (h₄ : a₄ = prv c) (g₁ : b₁ = nxt c) (g₂ : b₂ = prv c) (g₃ : b₃ = nxt c) (g₄ : b₄ = prv c) (k : F .f32 → P (F := F) PUnit) (Q : PUnit → sProp 𝕄) :
    iprop(recs m K ∗ entryPre m c ∗ bigSep Finset.univ (sendTok (F := F) c) ∗ (S4 (recvRes (F := F) c) 0)
        ∗ (xP c (rows64 2) (xin m c) ∗ xP c (rows64 3) (xin m c)) ∗ (zeroD (F := F) c (semX 2) ∗ zeroD (F := F) c (semX 3))
        ∗ (∃ g, x8P (F := F) c fullShare Finset.univ g) ∗ wPre m c ∗ bdIdle (F := F) c 0 ∗ oFree (F := F) c c ∗ aP m c ∗ bP m c)
      ⊢ iprop((firstPost m c -∗ wp frame (wpE defs₀ 𝒱₀ (c : Thread nD τ) none) Set.univ (k (sc m c)) Q)
        -∗ wp frame (wpE defs₀ 𝒱₀ (c : Thread nD τ) none) Set.univ (entry n₁ n₂ >>= fun _ => scale >>= fun s => xPhase a₁ a₂ a₃ a₄ >>= fun _ =>
            wPhase >>= fun _ => bandOwn s c >>= fun _ => hop 0 b₁ b₂ b₃ b₄ >>= fun _ => k s) Q) := by
  iintro ⟨#Hrec, He, Ht, Hr0, Hx, Hz, H8, Hw, Hb0, Ho, Ha, Hb⟩ Hk
  iapply (Tr.step (tr_entry m K c n₁ n₂ e₁ e₂) _ Q) $$ [He]
  · isplitr; · iexact Hrec
    iexact He
  iintro ⟨HO, Hbar, Hn, Hf0, Hf1⟩
  ihave Hs := (BIBase.Entails.trans (sendRes_all (F := F) c) (Entails.of_eq (bigSep_flows (sendRes (F := F) c)))) $$ [Ht Hn]
  · isplitl [Ht]; · iexact Ht
    iexact Hn
  icases Hs with ⟨Hs0, Hs1, Hs2, Hs3, Hs4, Hs5, Hs6, Hs7⟩
  iapply (ld_scale m c _ Q) $$ [Ha Hb]
  · isplitl [Ha]; · iexact Ha
    iexact Hb
  iintro ⟨Ha, Hb⟩
  iapply (Tr.step (tr_xPhase m K c a₁ a₂ a₃ a₄ h₁ h₂ h₃ h₄) _ Q) $$ [HO Hf0 Hf1 Hx Hz H8 Hs0]
  · isplitr; · iexact Hrec
    isplitl [HO]; · iexact HO
    unfold xPre
    isplitl [Hf0 Hf1]
    · isplitl [Hf0]; · iexact Hf0
      iexact Hf1
    isplitl [Hx]; · iexact Hx
    isplitl [Hz]; · iexact Hz
    isplitl [H8]; · iexact H8
    iexact Hs0
  unfold xPost
  iintro ⟨HO, Hx, Hsx, Hz, H8, Ht0⟩
  iapply (Tr.step (tr_wPhase m K c (rem 1)) _ Q) $$ [HO Hw]
  · isplitr; · iexact Hrec
    isplitl [HO]; · iexact HO
    iexact Hw
  iintro ⟨HO, Hw⟩
  unfold firstPost wPost
  icases Hw with ⟨Hwi, Hsw, Hzw, Hw8⟩
  iapply (Tr.step (tr_bandOwn m c fullShare.right) _ Q) $$ [H8 Hw8 Hb0 Ho]
  · isplitl [H8]; · iexact H8
    isplitl [Hw8]; · iexact Hw8
    isplitl [Hb0]; · iexact Hb0
    iexact Ho
  iintro ⟨H8, Hw8, Hf0⟩
  iapply (Tr.step (tr_hop m K 0 c b₁ b₂ b₃ b₄ g₁ g₂ g₃ g₄) _ Q) $$ [HO Hs1 Hr0]
  · isplitr; · iexact Hrec
    isplitl [HO]; · iexact HO
    isplitl [Hs1]; · iexact Hs1
    iexact Hr0
  iintro ⟨HO, Ht1, Hc0, Sr, Sl⟩
  iapply Hk
  isplitl [HO]; · iexact HO
  isplitl [Hbar]; · iexact Hbar
  isplitl [Hs2 Hs3 Hs4 Hs5 Hs6 Hs7]
  · isplitl [Hs2]; · iexact Hs2
    isplitl [Hs3]; · iexact Hs3
    isplitl [Hs4]; · iexact Hs4
    isplitl [Hs5]; · iexact Hs5
    isplitl [Hs6]; · iexact Hs6
    iexact Hs7
  isplitl [Ht0 Ht1]
  · isplitl [Ht0]; · iexact Ht0
    iexact Ht1
  isplitl [Hc0]; · iexact Hc0
  isplitl [Hx]; · iexact Hx
  isplitl [Hsx]; · iexact Hsx
  isplitl [Hz]; · unfold zx; iexact Hz
  isplitl [H8]; · iexact H8
  isplitl [Hwi Hsw Hzw Hw8]
  · isplitl [Hwi]; · iexact Hwi
    isplitl [Hsw]; · iexact Hsw
    isplitl [Hzw]; · iexact Hzw
    iexact Hw8
  isplitl [Sr Sl]
  · isplitl [Sr]; · iexact Sr
    iexact Sl
  isplitl [Hf0]; · iexact Hf0
  isplitl [Ha]; · iexact Ha
  iexact Hb

/-- The rows finished before the last slots come in. -/
def doneSix (c : Dev nD) : sProp 𝕄 :=
  iprop(oDone m c c ∗ oDone m c (org true c 1) ∗ oDone m c (org false c 1) ∗ oDone m c (org true c 2) ∗ oDone m c (org false c 2)
    ∗ oDone m c (org true c 3) ∗ oDone m c (org false c 3) ∗ oDone m c (org true c 4) ∗ oDone m c (org false c 4)
    ∗ oDone m c (org true c 5) ∗ oDone m c (org false c 5))
/-- The slots received so far, in both directions. -/
def slotsSix (d : Bool) (c : Dev nD) : sProp 𝕄 :=
  iprop(slotP m d c 0 ∗ slotP m d c 1 ∗ slotP m d c 2 ∗ slotP m d c 3 ∗ slotP m d c 4 ∗ slotP m d c 5)

/-- The turns' hops all go to the same neighbours. -/
def Turns (c : Dev nD) (n : Fin 5 → Fin 4 → Dev nD) : Prop := ∀ h, n h 0 = nxt c ∧ n h 1 = prv c ∧ n h 2 = nxt c ∧ n h 3 = prv c

/-- The five turns, after the bands of the first slots. -/
theorem middle (c : Dev nD) (n : Fin 5 → Fin 4 → Dev nD) (hn : Turns c n) (k : PUnit → P (F := F) PUnit) (Q : PUnit → sProp 𝕄) :
    iprop(recs m K ∗ Ow c (rem 2) ∗ (S4 (sendRes (F := F) c) 2 ∗ S4 (sendRes (F := F) c) 3 ∗ S4 (sendRes (F := F) c) 4 ∗ S4 (sendRes (F := F) c) 5
          ∗ S4 (sendRes (F := F) c) 6)
        ∗ (S4 (recvRes (F := F) c) 1 ∗ S4 (recvRes (F := F) c) 2 ∗ S4 (recvRes (F := F) c) 3 ∗ S4 (recvRes (F := F) c) 4 ∗ S4 (recvRes (F := F) c) 5)
        ∗ (slotP m true c 0 ∗ slotP m false c 0) ∗ w8P c Finset.univ (W m c) ∗ flB m c 0 c ∗ bdIdle (F := F) c 1
        ∗ (oFree (F := F) c (org true c 1) ∗ oFree (F := F) c (org false c 1) ∗ oFree (F := F) c (org true c 2) ∗ oFree (F := F) c (org false c 2)
          ∗ oFree (F := F) c (org true c 3) ∗ oFree (F := F) c (org false c 3) ∗ oFree (F := F) c (org true c 4) ∗ oFree (F := F) c (org false c 4)
          ∗ oFree (F := F) c (org true c 5) ∗ oFree (F := F) c (org false c 5) ∗ oFree (F := F) c (org true c 6) ∗ oFree (F := F) c (org false c 6)))
      ⊢ iprop((iprop(Ow c (rem 7) ∗ (S4 (sentRes (F := F) c) 2 ∗ S4 (sentRes (F := F) c) 3 ∗ S4 (sentRes (F := F) c) 4 ∗ S4 (sentRes (F := F) c) 5
            ∗ S4 (sentRes (F := F) c) 6)
          ∗ (S4 (closedR (F := F) c) 1 ∗ S4 (closedR (F := F) c) 2 ∗ S4 (closedR (F := F) c) 3 ∗ S4 (closedR (F := F) c) 4 ∗ S4 (closedR (F := F) c) 5)
          ∗ (slotsSix m true c ∗ slotsSix m false c) ∗ w8P c Finset.univ (W m c) ∗ flB m c 1 (org true c 6) ∗ flB m c 0 (org false c 6) ∗ doneSix m c)
            -∗ wp frame (wpE defs₀ 𝒱₀ (c : Thread nD τ) none) Set.univ (k ⟨⟩) Q)
        -∗ wp frame (wpE defs₀ 𝒱₀ (c : Thread nD τ) none) Set.univ (bands0 (sc m c) c >>= fun _ =>
            hop 1 (n 0 0) (n 0 1) (n 0 2) (n 0 3) >>= fun _ => bands (sc m c) c 0 >>= fun _ =>
            hop 2 (n 1 0) (n 1 1) (n 1 2) (n 1 3) >>= fun _ => bands (sc m c) c 1 >>= fun _ =>
            hop 3 (n 2 0) (n 2 1) (n 2 2) (n 2 3) >>= fun _ => bands (sc m c) c 2 >>= fun _ =>
            hop 4 (n 3 0) (n 3 1) (n 3 2) (n 3 3) >>= fun _ => bands (sc m c) c 3 >>= fun _ =>
            hop 5 (n 4 0) (n 4 1) (n 4 2) (n 4 3) >>= fun _ => bands (sc m c) c 4 >>= k) Q) := by
  iintro ⟨#Hrec, HO, ⟨Hs2, Hs3, Hs4, Hs5, Hs6⟩, ⟨Hr1, Hr2, Hr3, Hr4, Hr5⟩, ⟨A0, B0⟩, Hw, Hf0, Hb1,
    U1, V1, U2, V2, U3, V3, U4, V4, U5, V5, U6, V6⟩ Hk
  iapply (Tr.step (tr_bands0 m K c (rem 2)) _ Q) $$ [HO Hw A0 B0 Hf0 Hb1 U1 V1]
  · isplitr; · iexact Hrec
    iframe HO Hw A0 B0 Hf0 Hb1 U1 V1
  iintro ⟨HO, Hw, A0, B0, D0, Hf1, Hf0⟩
  iapply (turn m K c _ _ _ _ (hn 0).1 (hn 0).2.1 (hn 0).2.2.1 (hn 0).2.2.2 0 _ Q) $$ [HO Hs2 Hr1 Hw Hf1 Hf0 U2 V2]
  · isplitr; · iexact Hrec
    isplitl [HO]; · iexact HO
    isplitl [Hs2]; · iexact Hs2
    isplitl [Hr1]; · iexact Hr1
    isplitl [Hw]; · iexact Hw
    isplitl [Hf1]; · iexact Hf1
    isplitl [Hf0]; · iexact Hf0
    isplitl [U2]; · iexact U2
    iexact V2
  iintro ⟨HO, Ht2, Hc1, A1, B1, Hw, P1, R1, Hf1, Hf0⟩
  iapply (turn m K c _ _ _ _ (hn 1).1 (hn 1).2.1 (hn 1).2.2.1 (hn 1).2.2.2 1 _ Q) $$ [HO Hs3 Hr2 Hw Hf1 Hf0 U3 V3]
  · isplitr; · iexact Hrec
    isplitl [HO]; · iexact HO
    isplitl [Hs3]; · iexact Hs3
    isplitl [Hr2]; · iexact Hr2
    isplitl [Hw]; · iexact Hw
    isplitl [Hf1]; · iexact Hf1
    isplitl [Hf0]; · iexact Hf0
    isplitl [U3]; · iexact U3
    iexact V3
  iintro ⟨HO, Ht3, Hc2, A2, B2, Hw, P2, R2, Hf1, Hf0⟩
  iapply (turn m K c _ _ _ _ (hn 2).1 (hn 2).2.1 (hn 2).2.2.1 (hn 2).2.2.2 2 _ Q) $$ [HO Hs4 Hr3 Hw Hf1 Hf0 U4 V4]
  · isplitr; · iexact Hrec
    isplitl [HO]; · iexact HO
    isplitl [Hs4]; · iexact Hs4
    isplitl [Hr3]; · iexact Hr3
    isplitl [Hw]; · iexact Hw
    isplitl [Hf1]; · iexact Hf1
    isplitl [Hf0]; · iexact Hf0
    isplitl [U4]; · iexact U4
    iexact V4
  iintro ⟨HO, Ht4, Hc3, A3, B3, Hw, P3, R3, Hf1, Hf0⟩
  iapply (turn m K c _ _ _ _ (hn 3).1 (hn 3).2.1 (hn 3).2.2.1 (hn 3).2.2.2 3 _ Q) $$ [HO Hs5 Hr4 Hw Hf1 Hf0 U5 V5]
  · isplitr; · iexact Hrec
    isplitl [HO]; · iexact HO
    isplitl [Hs5]; · iexact Hs5
    isplitl [Hr4]; · iexact Hr4
    isplitl [Hw]; · iexact Hw
    isplitl [Hf1]; · iexact Hf1
    isplitl [Hf0]; · iexact Hf0
    isplitl [U5]; · iexact U5
    iexact V5
  iintro ⟨HO, Ht5, Hc4, A4, B4, Hw, P4, R4, Hf1, Hf0⟩
  iapply (turn m K c _ _ _ _ (hn 4).1 (hn 4).2.1 (hn 4).2.2.1 (hn 4).2.2.2 4 _ Q) $$ [HO Hs6 Hr5 Hw Hf1 Hf0 U6 V6]
  · isplitr; · iexact Hrec
    isplitl [HO]; · iexact HO
    isplitl [Hs6]; · iexact Hs6
    isplitl [Hr5]; · iexact Hr5
    isplitl [Hw]; · iexact Hw
    isplitl [Hf1]; · iexact Hf1
    isplitl [Hf0]; · iexact Hf0
    isplitl [U6]; · iexact U6
    iexact V6
  iintro ⟨HO, Ht6, Hc5, A5, B5, Hw, P5, R5, Hf1, Hf0⟩
  iapply Hk
  isplitl [HO]; · iexact HO
  isplitl [Ht2 Ht3 Ht4 Ht5 Ht6]
  · isplitl [Ht2]; · iexact Ht2
    isplitl [Ht3]; · iexact Ht3
    isplitl [Ht4]; · iexact Ht4
    isplitl [Ht5]; · iexact Ht5
    iexact Ht6
  isplitl [Hc1 Hc2 Hc3 Hc4 Hc5]
  · isplitl [Hc1]; · iexact Hc1
    isplitl [Hc2]; · iexact Hc2
    isplitl [Hc3]; · iexact Hc3
    isplitl [Hc4]; · iexact Hc4
    iexact Hc5
  unfold slotsSix doneSix
  isplitl [A0 A1 A2 A3 A4 A5 B0 B1 B2 B3 B4 B5]
  · isplitl [A0 A1 A2 A3 A4 A5]
    · isplitl [A0]; · iexact A0
      isplitl [A1]; · iexact A1
      isplitl [A2]; · iexact A2
      isplitl [A3]; · iexact A3
      isplitl [A4]; · iexact A4
      iexact A5
    · isplitl [B0]; · iexact B0
      isplitl [B1]; · iexact B1
      isplitl [B2]; · iexact B2
      isplitl [B3]; · iexact B3
      isplitl [B4]; · iexact B4
      iexact B5
  isplitl [Hw]; · iexact Hw
  isplitl [Hf1]; · iexact Hf1
  isplitl [Hf0]; · iexact Hf0
  isplitl [D0]; · iexact D0
  isplitl [P1]; · iexact P1
  isplitl [R1]; · iexact R1
  isplitl [P2]; · iexact P2
  isplitl [R2]; · iexact R2
  isplitl [P3]; · iexact P3
  isplitl [R3]; · iexact R3
  isplitl [P4]; · iexact P4
  isplitl [R4]; · iexact R4
  isplitl [P5]; · iexact P5
  iexact R5

/-- The last slots, the last bands and what has to be waited for at the end. -/
theorem final (c n₁ n₂ n₃ n₄ : Dev nD) (h₁ : n₁ = nxt c) (h₂ : n₂ = nxt c) (h₃ : n₃ = prv c) (h₄ : n₄ = prv c) (Q : PUnit → sProp 𝕄) :
    iprop(recs m K ∗ Ow c (rem 7) ∗ S4 (sendRes (F := F) c) 7 ∗ (S4 (recvRes (F := F) c) 6 ∗ S4 (recvRes (F := F) c) 7)
        ∗ (S4 (sentRes (F := F) c) 0 ∗ S4 (sentRes (F := F) c) 1 ∗ S4 (sentRes (F := F) c) 2 ∗ S4 (sentRes (F := F) c) 3 ∗ S4 (sentRes (F := F) c) 4
          ∗ S4 (sentRes (F := F) c) 5 ∗ S4 (sentRes (F := F) c) 6)
        ∗ w8P c Finset.univ (W m c) ∗ flB m c 1 (org true c 6) ∗ flB m c 0 (org false c 6)
        ∗ oFree (F := F) c (org true c 7) ∗ oFree (F := F) c (org false c 7) ∗ oFree (F := F) c (org false c 8))
      ⊢ iprop((iprop(Ow c [] ∗ (D8 (leftP m c) true ∗ D8 (leftP m c) false) ∗ (S4 (closedR (F := F) c) 6 ∗ S4 (closedR (F := F) c) 7)
          ∗ (slotP m true c 6 ∗ slotP m false c 6 ∗ restSix m c ∗ halfP m true c ∗ halfP m false c) ∗ w8P c Finset.univ (W m c)
          ∗ (bdIdle (F := F) c 0 ∗ bdIdle (F := F) c 1)
          ∗ (oDone m c (org true c 6) ∗ oDone m c (org false c 6) ∗ oDone m c (org true c 7) ∗ oDone m c (org false c 7) ∗ oDone m c (org false c 8)))
            -∗ Q ⟨⟩)
        -∗ wp frame (wpE defs₀ 𝒱₀ (c : Thread nD τ) none) Set.univ (hopSix n₁ n₂ n₃ n₄ >>= fun _ => bands (sc m c) c 5 >>= fun _ => hopSeven >>= fun _ =>
            bandLast (sc m c) c >>= fun _ => leftAll true >>= fun _ => leftAll false >>= fun _ =>
            bandWait 0 (k0_off3 c (BitVec.ofNat 32 (6 : Fin 7).val)) (k0_off3_inb c 6) >>= fun _ =>
            bandWait 1 (k0_off4 c) (k0_off4_inb c) >>= fun _ => pure ⟨⟩) Q) := by
  iintro ⟨#Hrec, HO, Hs7, ⟨Hr6, Hr7⟩, ⟨Ht0, Ht1, Ht2, Ht3, Ht4, Ht5, Ht6⟩, Hw, Hf1, Hf0, U7, V7, V8⟩ Hk
  iapply (Tr.step (tr_hopSix m K c n₁ n₂ n₃ n₄ h₁ h₂ h₃ h₄) _ Q) $$ [HO Hs7 Hr6]
  · isplitr; · iexact Hrec
    isplitl [HO]; · iexact HO
    isplitl [Hs7]; · iexact Hs7
    iexact Hr6
  iintro ⟨HO, Ht7, Hc6, A6, B6, Hrest⟩
  iapply (Tr.step (tr_bands m K c 5 []) _ Q) $$ [HO Hw A6 B6 Hf1 Hf0 U7 V7]
  · isplitr; · iexact Hrec
    isplitl [HO]; · iexact HO
    isplitl [Hw]; · iexact Hw
    isplitl [A6]; · iexact A6
    isplitl [B6]; · iexact B6
    isplitl [Hf1]; · iexact Hf1
    isplitl [Hf0]; · iexact Hf0
    isplitl [U7]; · iexact U7
    iexact V7
  iintro ⟨HO, Hw, A6, B6, P6, R6, Hf1, Hf0⟩
  iapply (Tr.step (tr_hopSeven m K c) _ Q) $$ [HO Hr7]
  · isplitr; · iexact Hrec
    isplitl [HO]; · iexact HO
    iexact Hr7
  iintro ⟨HO, Hc7, A7, B7⟩
  iapply (Tr.step (tr_bandLast m K c []) _ Q) $$ [HO Hw A7 B7 Hf1 V8]
  · isplitr; · iexact Hrec
    isplitl [HO]; · iexact HO
    isplitl [Hw]; · iexact Hw
    isplitl [A7]; · iexact A7
    isplitl [B7]; · iexact B7
    isplitl [Hf1]; · iexact Hf1
    iexact V8
  iintro ⟨HO, Hw, A7, B7, P7, Hf1⟩
  ihave Hd := (Entails.of_eq ((bigSep_flows (sentRes (F := F) c)).symm.trans (bigSep_flows_dir (sentRes (F := F) c)))) $$ [Ht0 Ht1 Ht2 Ht3 Ht4 Ht5 Ht6 Ht7]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  icases Hd with ⟨Hdr, Hdl⟩
  iapply (Tr.step (tr_leftAll m K true c) _ Q) $$ [HO Hdr]
  · isplitr; · iexact Hrec
    isplitl [HO]; · iexact HO
    iexact Hdr
  iintro ⟨HO, Hdr⟩
  iapply (Tr.step (tr_leftAll m K false c) _ Q) $$ [HO Hdl]
  · isplitr; · iexact Hrec
    isplitl [HO]; · iexact HO
    iexact Hdl
  iintro ⟨HO, Hdl⟩
  iapply (Tr.step (tr_bandWait m K c 0 (org false c 7) _ (k0_off3_inb c 6) []) _ Q) $$ [HO Hf0]
  · isplitr; · iexact Hrec
    isplitl [HO]; · iexact HO
    iexact Hf0
  iintro ⟨HO, R7, Hb0⟩
  iapply (Tr.step (tr_bandWait m K c 1 (org false c 8) _ (k0_off4_inb c) []) _ Q) $$ [HO Hf1]
  · isplitr; · iexact Hrec
    isplitl [HO]; · iexact HO
    iexact Hf1
  iintro ⟨HO, R8, Hb1⟩
  rw [Prog.pure_eq_ret, wp_ret]
  imodintro
  iapply Hk
  isplitl [HO]; · iexact HO
  isplitl [Hdr Hdl]
  · isplitl [Hdr]; · iexact Hdr
    iexact Hdl
  isplitl [Hc6 Hc7]
  · isplitl [Hc6]; · iexact Hc6
    iexact Hc7
  isplitl [A6 B6 Hrest A7 B7]
  · isplitl [A6]; · iexact A6
    isplitl [B6]; · iexact B6
    isplitl [Hrest]; · iexact Hrest
    isplitl [A7]; · iexact A7
    iexact B7
  isplitl [Hw]; · iexact Hw
  isplitl [Hb0 Hb1]
  · isplitl [Hb0]; · iexact Hb0
    iexact Hb1
  isplitl [P6]; · iexact P6
  isplitl [R6]; · iexact R6
  isplitl [P7]; · iexact P7
  isplitl [R7]; · iexact R7
  iexact R8

/-- The devices the turns' copies name. -/
def turnDevs (c : Dev nD) : Fin 5 → Fin 4 → Dev nD := ![![⟨k0_dev11 c, k0_dev11_lt c⟩, ⟨k0_dev12 c, k0_dev12_lt c⟩, ⟨k0_dev13 c, k0_dev13_lt c⟩, ⟨k0_dev14 c, k0_dev14_lt c⟩],
  ![⟨k0_dev15 c, k0_dev15_lt c⟩, ⟨k0_dev16 c, k0_dev16_lt c⟩, ⟨k0_dev17 c, k0_dev17_lt c⟩, ⟨k0_dev18 c, k0_dev18_lt c⟩],
  ![⟨k0_dev19 c, k0_dev19_lt c⟩, ⟨k0_dev20 c, k0_dev20_lt c⟩, ⟨k0_dev21 c, k0_dev21_lt c⟩, ⟨k0_dev22 c, k0_dev22_lt c⟩],
  ![⟨k0_dev23 c, k0_dev23_lt c⟩, ⟨k0_dev24 c, k0_dev24_lt c⟩, ⟨k0_dev25 c, k0_dev25_lt c⟩, ⟨k0_dev26 c, k0_dev26_lt c⟩],
  ![⟨k0_dev27 c, k0_dev27_lt c⟩, ⟨k0_dev28 c, k0_dev28_lt c⟩, ⟨k0_dev29 c, k0_dev29_lt c⟩, ⟨k0_dev30 c, k0_dev30_lt c⟩]]
theorem turns_eq : ∀ c : Dev nD, Turns c (turnDevs c) := by unfold Turns; decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev31_eq : ∀ c : Dev nD, (⟨k0_dev31 c, k0_dev31_lt c⟩ : Dev nD) = nxt c := by decide +kernel
theorem dev32_eq : ∀ c : Dev nD, (⟨k0_dev32 c, k0_dev32_lt c⟩ : Dev nD) = nxt c := by decide +kernel
theorem dev33_eq : ∀ c : Dev nD, (⟨k0_dev33 c, k0_dev33_lt c⟩ : Dev nD) = prv c := by decide +kernel
theorem dev34_eq : ∀ c : Dev nD, (⟨k0_dev34 c, k0_dev34_lt c⟩ : Dev nD) = prv c := by decide +kernel

theorem restSix_eq (c : Dev nD) : restSix m c = iprop(restD m true c ∗ restD m false c) := rfl

/-- What is left when the steps are done makes the buffers whole. -/
theorem gather (c : Dev nD) :
    iprop((D8 (leftP m c) true ∗ D8 (leftP m c) false) ∗ (slotsSix m true c ∗ slotsSix m false c)
        ∗ (slotP m true c 6 ∗ slotP m false c 6 ∗ restSix m c ∗ halfP m true c ∗ halfP m false c)
        ∗ (landAny (F := F) true c (Finset.univ \ filled true) ∗ landAny (F := F) false c (Finset.univ \ filled false))
        ∗ x8P c fullShare.right Finset.univ (X m c))
      ⊢ iprop(bigSep Finset.univ (closedS (F := F) c) ∗ anyP (F := F) c cc0_scratch0 ∗ anyP (F := F) c cc0_scratch2 ∗ anyP (F := F) c cc0_scratch3) := by
  unfold slotsSix
  iintro ⟨⟨HR, HL⟩, ⟨⟨A0, A1, A2, A3, A4, A5⟩, B0, B1, B2, B3, B4, B5⟩, ⟨A6, B6, Hrest, A7, B7⟩, ⟨Kr, Kl⟩, H8⟩
  ihave HR' := (left_split m c true) $$ HR
  ihave HL' := (left_split m c false) $$ HL
  ihave Hrest' := (Entails.of_eq (restSix_eq m c)) $$ Hrest
  icases HR' with ⟨Ra, Rs⟩
  icases HL' with ⟨La, Ls⟩
  icases Hrest' with ⟨Rr, Rl⟩
  ihave Br := (land_back m true c) $$ [Ra A0 A1 A2 A3 A4 A5 A6 Rr A7 Kr]
  · unfold slots
    isplitl [Ra]; · iexact Ra
    isplitl [A0 A1 A2 A3 A4 A5 A6]
    · iframe A0 A1 A2 A3 A4 A5 A6
    isplitl [Rr]; · iexact Rr
    isplitl [A7]; · iexact A7
    iexact Kr
  ihave Bl := (land_back m false c) $$ [La B0 B1 B2 B3 B4 B5 B6 Rl B7 Kl]
  · unfold slots
    isplitl [La]; · iexact La
    isplitl [B0 B1 B2 B3 B4 B5 B6]
    · iframe B0 B1 B2 B3 B4 B5 B6
    isplitl [Rl]; · iexact Rl
    isplitl [B7]; · iexact B7
    iexact Kl
  icases Br with ⟨Sr, Br⟩
  icases Bl with ⟨Sl, Bl⟩
  isplitl [Rs Ls]
  · iapply (Entails.of_eq (bigSep_flows_dir (closedS (F := F) c)).symm)
    isplitl [Rs]; · iexact Rs
    iexact Ls
  isplitl [Sr Sl H8]
  · iapply (BIBase.Entails.trans (x8_back m c) (x8_any' c (X m c)))
    isplitl [Sr Sl]
    · isplitl [Sr]; · iexact Sr
      iexact Sl
    iexact H8
  isplitl [Br]
  · iapply (Entails.of_eq (landR_any c).symm) $$ Br
  · iapply (Entails.of_eq (landL_any c).symm) $$ Bl

set_option maxHeartbeats 1000000 in
/-- The body, from a device's part of the set-up to its finished block. -/
theorem tr_body (c : Dev nD) : Tr c iprop(recs m K ∗ bodyStart m c) (bodyR (F := F)) (bodyEnd m c) := by
  intro Q
  unfold bodyR bodyStart barStart scr zx zb
  simp only [Prog.lift, Prog.bind_op, Prog.bind_ret, wp_deviceId]
  iintro ⟨⟨#Hrec, ⟨HO, Hbar, Htok⟩, Hst, Hrr, Hx, Hw, ⟨%o, Ho⟩, ⟨C0, C1, C2, C3, C4, C5, C6⟩, ⟨⟨Zx0, Zx1, Zx2, Zx3⟩, Zw, Zb0, Zb1⟩, Ha, Hb⟩, Hk⟩
  ihave Hrr' := (Entails.of_eq (bigSep_flows (recvRes (F := F) c))) $$ Hrr
  icases Hrr' with ⟨Hr0, Hr1, Hr2, Hr3, Hr4, Hr5, Hr6, Hr7⟩
  ihave Hx' := (Entails.of_eq (x_pieces c (xin m c))) $$ Hx
  icases Hx' with ⟨⟨⟨X0, X1⟩, X2⟩, X3⟩
  ihave Ho' := (out_cut c o) $$ Ho
  unfold E16
  icases Ho' with ⟨U0, U1, V1, U2, V2, U3, V3, U4, V4, U5, V5, U6, V6, U7, V7, V8⟩
  ihave C2' := (BIBase.Entails.trans (Entails.of_eq (landR_any c)) (land_hand true c)) $$ C2
  icases C2' with ⟨Hr, Kr⟩
  ihave C3' := (BIBase.Entails.trans (Entails.of_eq (landL_any c)) (land_hand false c)) $$ C3
  icases C3' with ⟨Hl, Kl⟩
  ihave C4' := (sx_cut c) $$ C4
  ihave C5' := (sw_cut c) $$ C5
  ihave C6' := (bd_cut c) $$ C6
  icases C6' with ⟨Bd0, Bd1⟩
  iapply (first m K c _ _ _ _ _ _ _ _ _ _ (dev_prv c) (dev_nxt c) (dev3_eq c) (dev4_eq c) (dev5_eq c) (dev6_eq c) (dev7_eq c) (dev8_eq c) (dev9_eq c)
    (dev10_eq c) _ Q) $$ [HO Hbar Htok Hr Hl X0 X1 C4' Zx0 Zx1 Hst Hr0 X2 X3 Zx2 Zx3 C0 Hw C5' Zw C1 Bd0 Zb0 U0 Ha Hb]
  · isplitr; · iexact Hrec
    unfold entryPre wPre bdIdle
    isplitl [HO Hbar Htok Hr Hl X0 X1 C4' Zx0 Zx1]
    · isplitl [HO]; · iexact HO
      isplitl [Hbar]; · iexact Hbar
      isplitl [Htok]; · iexact Htok
      isplitl [Hr Hl]
      · isplitl [Hr]; · iexact Hr
        iexact Hl
      isplitl [X0 X1]
      · isplitl [X0]; · iexact X0
        iexact X1
      isplitl [C4']; · iexact C4'
      isplitl [Zx0]; · iexact Zx0
      iexact Zx1
    isplitl [Hst]; · iexact Hst
    isplitl [Hr0]; · iexact Hr0
    isplitl [X2 X3]
    · isplitl [X2]; · iexact X2
      iexact X3
    isplitl [Zx2 Zx3]
    · isplitl [Zx2]; · iexact Zx2
      iexact Zx3
    isplitl [C0]; · iapply (x8_any c) $$ C0
    isplitl [Hw C5' Zw C1]
    · isplitl [Hw]; · iexact Hw
      isplitl [C5']; · iexact C5'
      isplitl [Zw]; · unfold zw; iexact Zw
      iapply (w8_any c) $$ C1
    isplitl [Bd0 Zb0]
    · isplitl [Bd0]; · iexact Bd0
      iexact Zb0
    isplitl [U0]; · iexact U0
    isplitl [Ha]; · iexact Ha
    iexact Hb
  unfold firstPost wPost
  iintro ⟨HO, Hbar, ⟨Hs2, Hs3, Hs4, Hs5, Hs6, Hs7⟩, ⟨Ht0, Ht1⟩, Hc0, Hx, Hsx, Hzx, H8, ⟨Hw, Hsw, Hzw, Hw8⟩, Hsl, Hf0, Ha, Hb⟩
  iapply (middle m K c (turnDevs c) (turns_eq c) _ Q) $$ [HO Hs2 Hs3 Hs4 Hs5 Hs6 Hr1 Hr2 Hr3 Hr4 Hr5 Hsl Hw8 Hf0 Bd1 Zb1 U1 V1 U2 V2 U3 V3 U4 V4 U5 V5 U6 V6]
  · isplitr; · iexact Hrec
    isplitl [HO]; · iexact HO
    isplitl [Hs2 Hs3 Hs4 Hs5 Hs6]; · iframe Hs2 Hs3 Hs4 Hs5 Hs6
    isplitl [Hr1 Hr2 Hr3 Hr4 Hr5]; · iframe Hr1 Hr2 Hr3 Hr4 Hr5
    isplitl [Hsl]; · iexact Hsl
    isplitl [Hw8]; · iexact Hw8
    isplitl [Hf0]; · iexact Hf0
    isplitl [Bd1 Zb1]
    · unfold bdIdle
      isplitl [Bd1]; · iexact Bd1
      iexact Zb1
    iframe U1 V1 U2 V2 U3 V3 U4 V4 U5 V5 U6 V6
  iintro ⟨HO, ⟨Ht2, Ht3, Ht4, Ht5, Ht6⟩, ⟨Hc1, Hc2, Hc3, Hc4, Hc5⟩, Hsl, Hw8, Hf1, Hf0, Hdone⟩
  iapply (final m K c _ _ _ _ (dev31_eq c) (dev32_eq c) (dev33_eq c) (dev34_eq c) Q) $$ [HO Hs7 Hr6 Hr7 Ht0 Ht1 Ht2 Ht3 Ht4 Ht5 Ht6 Hw8 Hf1 Hf0 U7 V7 V8]
  · isplitr; · iexact Hrec
    isplitl [HO]; · iexact HO
    isplitl [Hs7]; · iexact Hs7
    isplitl [Hr6 Hr7]; · iframe Hr6 Hr7
    isplitl [Ht0 Ht1 Ht2 Ht3 Ht4 Ht5 Ht6]; · iframe Ht0 Ht1 Ht2 Ht3 Ht4 Ht5 Ht6
    isplitl [Hw8]; · iexact Hw8
    isplitl [Hf1]; · iexact Hf1
    isplitl [Hf0]; · iexact Hf0
    iframe U7 V7 V8
  unfold doneSix
  icases Hdone with ⟨D0, P1, R1, P2, R2, P3, R3, P4, R4, P5, R5⟩
  iintro ⟨HO, Hleft, ⟨Hc6, Hc7⟩, Hsl', Hw8, ⟨Bi0, Bi1⟩, P6, R6, P7, R7, R8⟩
  ihave Hg := (gather m c) $$ [Hleft Hsl Hsl' Kr Kl H8]
  · isplitl [Hleft]; · iexact Hleft
    isplitl [Hsl]; · iexact Hsl
    isplitl [Hsl']; · iexact Hsl'
    isplitl [Kr Kl]
    · isplitl [Kr]; · iexact Kr
      iexact Kl
    iexact H8
  icases Hg with ⟨Hcs, C0, C2, C3⟩
  unfold bdIdle
  icases Bi0 with ⟨Bd0, Zb0⟩
  icases Bi1 with ⟨Bd1, Zb1⟩
  iapply Hk
  unfold bodyEnd scr zb
  isplitl [HO]; · iexact HO
  isplitl [Hbar]; · iexact Hbar
  isplitl [Hcs]; · iexact Hcs
  isplitl [Hc0 Hc1 Hc2 Hc3 Hc4 Hc5 Hc6 Hc7]
  · iapply (Entails.of_eq (bigSep_flows (closedR (F := F) c)).symm)
    iframe Hc0 Hc1 Hc2 Hc3 Hc4 Hc5 Hc6 Hc7
  isplitl [Hx]; · iexact Hx
  isplitl [Hw]; · iexact Hw
  isplitl [D0 P1 R1 P2 R2 P3 R3 P4 R4 P5 R5 P6 R6 P7 R7 R8]
  · iapply (out_back m c)
    unfold E16
    iframe D0 P1 R1 P2 R2 P3 R3 P4 R4 P5 R5 P6 R6 P7 R7 R8
  isplitl [C0 Hw8 C2 C3 Hsx Hsw Bd0 Bd1]
  · isplitl [C0]; · iexact C0
    isplitl [Hw8]; · iapply (w8_any' c (W m c)) $$ Hw8
    isplitl [C2]; · iexact C2
    isplitl [C3]; · iexact C3
    isplitl [Hsx]; · iapply (sx_back c) $$ Hsx
    isplitl [Hsw]; · iapply (sw_back c) $$ Hsw
    iapply (bd_back c)
    isplitl [Bd0]; · iexact Bd0
    iexact Bd1
  isplitl [Hzx Hzw Zb0 Zb1]
  · isplitl [Hzx]; · iexact Hzx
    isplitl [Hzw]; · unfold zw; iexact Hzw
    isplitl [Zb0]; · iexact Zb0
    iexact Zb1
  isplitl [Ha]; · iexact Ha
  iexact Hb

end Cert.Ring
-- ==== Proof.Deal.lean ====
/-
# Dealing out the ring's set-up

At launch every device holds its own cells, all their duty tokens and its own counters at rest. Opening the cells' records for all devices at
once and handing each duty token to the device that pays it gives each device what its run starts from.
-/
module

public import proofs.«01_k».proof.Proof.Body
@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ
variable (m : (ℓ : Loc nD τ sig) → Buf (Elt F) ℓ)

/-! ## Families over a device's cells -/

theorem over_flows (Φ : Bool × Flow → sProp 𝕄) :
    bigSep Finset.univ Φ = iprop(bigSep Finset.univ (fun f : Flow => Φ (false, f)) ∗ bigSep Finset.univ (fun f : Flow => Φ (true, f))) := by
  rw [bigSep_univ_prod, bigSep_univ_eq_bigSepL [false, true] (by decide) (by decide), bigSepL_cons_cons, bigSepL_singleton]
  rfl
/-- A family over a device's cells: the barrier's, the send cells', the receive cells'. -/
theorem over_cells (Φ : Cell → sProp 𝕄) :
    bigSep Finset.univ Φ = iprop(Φ none ∗ bigSep Finset.univ (fun f : Flow => Φ (some (false, f))) ∗ bigSep Finset.univ (fun f : Flow => Φ (some (true, f)))) := by
  rw [bigSep_univ_equiv (Equiv.optionEquivSumPUnit (Bool × Flow)).symm Φ, bigSep_univ_sum, over_flows, show (Finset.univ : Finset PUnit.{1}) = {PUnit.unit} from rfl, bigSep_singleton]
  exact _root_.Std.Commutative.comm (op := fun P Q : sProp 𝕄 => BI.sep P Q) _ _

/-! ## The kernel's own semaphores -/

/-- The DMA semaphores the kernel runs on besides the two of the staging buffers: fourteen for the copies inside the device, then the flows'. -/
def osem : Fin 14 ⊕ (Bool × Flow) → SemLoc sig
  | .inl i => .dma ⟨2 + i.val, by have := i.isLt; show _ < 80; omega⟩
  | .inr p => csem (some p)
theorem decode_osem (k : Fin 14 ⊕ (Bool × Flow)) : decode (osem k) = k.elim (fun _ => none) (fun p => some (some p)) := by
  rcases k with i | p
  · have := i.isLt
    exact if_pos (show 2 + i.val < 16 by omega)
  · exact decode_csem (some p)
theorem osem_inj : Function.Injective osem := fun a b h => by
  have hd := decode_osem a
  rw [h, decode_osem b] at hd
  rcases a with i | p <;> rcases b with j | q
  · have h' : 2 + j.val = 2 + i.val := by
      have := SemLoc.dma.inj h
      exact (congrArg Fin.val this).symm
    exact congrArg Sum.inl (Fin.ext (by omega))
  · exact absurd hd (by intro h; cases h)
  · exact absurd hd (by intro h; cases h)
  · exact congrArg Sum.inr (Option.some.inj (Option.some.inj hd)).symm
theorem ownSemFacts : Pipeline.OwnSemFacts cfg0.spec osem where
  isScoped := by decide +kernel
  inj := osem_inj
  disj := by decide +kernel

/-- A device's own counters at rest: the inner copies', the send cells', the receive cells'. -/
abbrev inner (c : Dev nD) : sProp 𝕄 := iprop(zx (F := F) c ∗ zw (F := F) c ∗ zb (F := F) c)

theorem sep_fourteen (A₀ A₁ A₂ A₃ B₀ B₁ B₂ B₃ B₄ B₅ B₆ B₇ C₀ C₁ : sProp 𝕄) :
    iprop(A₀ ∗ A₁ ∗ A₂ ∗ A₃ ∗ B₀ ∗ B₁ ∗ B₂ ∗ B₃ ∗ B₄ ∗ B₅ ∗ B₆ ∗ B₇ ∗ C₀ ∗ C₁)
      = iprop((A₀ ∗ A₁ ∗ A₂ ∗ A₃) ∗ (B₀ ∗ B₁ ∗ B₂ ∗ B₃ ∗ B₄ ∗ B₅ ∗ B₆ ∗ B₇) ∗ C₀ ∗ C₁) := by
  have ha : ∀ P Q R : sProp 𝕄, iprop((P ∗ Q) ∗ R) = iprop(P ∗ Q ∗ R) := fun P Q R =>
    _root_.Std.Associative.assoc (op := fun P Q : sProp 𝕄 => BI.sep P Q) P Q R
  simp only [ha]
theorem inner_eq (c : Dev nD) : (bigSep Finset.univ fun i : Fin 14 => (semVal ((c : Thread nD τ), osem (.inl i)) 0 : sProp 𝕄)) = inner (F := F) c := by
  rw [bigSep_univ_eq_bigSepL [0, 1, 2, 3, 4, 5, 6, 7, 8, 9, 10, 11, 12, 13] (by decide) (by decide)]
  simp only [bigSepL_cons_cons, bigSepL_singleton]
  unfold inner zx zw zb E8
  exact sep_fourteen _ _ _ _ _ _ _ _ _ _ _ _ _ _

abbrev ownZero (c : Dev nD) : sProp 𝕄 := Pipeline.ownSems0 (Ix := Unit) (Name := ℕ) (U := UU) (Lvl := ℕ) (Val := Elt F) (τ := τ) osem c

theorem ownZero_eq (c : Dev nD) : ownZero (F := F) c
    = iprop(inner (F := F) c ∗ bigSep Finset.univ (closedS (F := F) c) ∗ bigSep Finset.univ (closedR (F := F) c)) := by
  unfold ownZero Pipeline.ownSems0
  rw [bigSep_univ_sum, over_flows, inner_eq]
  rfl
theorem barZero_eq (c : Dev nD) : (unscopedSems0 c : sProp 𝕄) = semVal (barAt c) 0 := by
  unfold unscopedSems0; rw [bigSep_eq_bigSepL_of_eq [SemLoc.reg barS] (by decide) (by decide)]; rfl

/-- All of a device's counters at rest: those of its ring cells, and the inner copies'. -/
theorem zero_cells (c : Dev nD) : iprop(ownZero (F := F) c ∗ unscopedSems0 c)
    ⊢ iprop((bigSep Finset.univ fun i : Cell => (semVal (kcell (c, i)) 0 : sProp 𝕄)) ∗ inner (F := F) c) := by
  rw [ownZero_eq, barZero_eq, over_cells]
  unfold closedS closedR
  iintro ⟨⟨Hi, HS, HR⟩, HB⟩
  isplitl [HB HS HR]
  · isplitl [HB]; · iexact HB
    isplitl [HS]; · iexact HS
    iexact HR
  iexact Hi

/-! ## The launch element -/

theorem kcell_inj : Function.Injective (kcell : Dev nD × Cell → GSem nD τ sig) := by
  rintro ⟨c, i⟩ ⟨c', i'⟩ h
  have h1 : c = c' := congrArg (fun g : GSem nD τ sig => g.1.1) h
  have h2 : i = i' := csem_inj (congrArg Prod.snd h)
  rw [h1, h2]
def ringCells : Finset (GSem nD τ sig) := Finset.univ.map ⟨kcell, kcell_inj⟩

/-- The duty tokens of the ring's cells: a barrier's two, every other cell's one. -/
abbrev tokOf (p : Dev nD × (Bool ⊕ (Bool × Flow))) : GSem nD τ sig × ℕ × Bool :=
  (kcell (p.1, p.2.elim (fun _ => none) some), 0, p.2.elim id (fun _ => false))
theorem tokOf_inj : Function.Injective tokOf := by
  rintro ⟨c, j⟩ ⟨c', j'⟩ h
  have h1 := kcell_inj (congrArg Prod.fst h)
  have h2 := congrArg (fun x : GSem nD τ sig × ℕ × Bool => x.2.2) h
  have hc : c = c' := congrArg Prod.fst h1
  have hi := congrArg Prod.snd h1
  subst hc
  rcases j with b | p <;> rcases j' with b' | p'
  · exact congrArg (fun x => (c, Sum.inl x)) h2
  · exact absurd hi (by intro h; cases h)
  · exact absurd hi (by intro h; cases h)
  · exact congrArg (fun x => (c, Sum.inr x)) (Option.some.inj hi)
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

abbrev tok (g : GSem nD τ sig) (d : Bool) : sProp 𝕄 := dutyTok (ER : Emb UB 𝕄) g 0 d
abbrev pos (g : GSem nD τ sig) : sProp 𝕄 := atPos (ER : Emb UB 𝕄) g 0 ∅ 0
abbrev mark (g : GSem nD τ sig) : sProp 𝕄 := reached (ER : Emb UB 𝕄) g 0

/-- The duty tokens of a device's own cells. -/
def toks (c : Dev nD) : sProp 𝕄 :=
  iprop((tok (F := F) (barAt c) false ∗ tok (F := F) (barAt c) true) ∗ (bigSep Finset.univ fun f : Flow => tok (F := F) (sendAt c f) false)
    ∗ bigSep Finset.univ fun f : Flow => tok (F := F) (recvAt c f) false)
/-- What the launch element deals a device: the state of its cells, its positions and marks there, its cells' tokens. -/
def Gd (c : Dev nD) : sProp 𝕄 :=
  iprop((bigSep Finset.univ fun i : Cell => roundState ER (ringRd m) (kcell (c, i)) 0) ∗ (bigSep Finset.univ fun i : Cell => pos (F := F) (kcell (c, i)))
    ∗ (bigSep Finset.univ fun i : Cell => mark (F := F) (kcell (c, i))) ∗ toks (F := F) c)

theorem fund_ring : BI.own ((ER : Emb UB 𝕄) (initOf ringCells ringToks)) ⊢ (|==> bigSep Finset.univ (Gd m) : sProp 𝕄) := by
  have hX (Φ : GSem nD τ sig → sProp 𝕄) : bigSep ringCells Φ = bigSep Finset.univ fun c : Dev nD => bigSep Finset.univ fun i : Cell => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by
      rw [bigSep_univ_sum, over_flows, bigSep_univ_eq_bigSepL [false, true] (by decide) (by decide), bigSepL_cons_cons, bigSepL_singleton]
      rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gd; simp only [bigSep_sep']
  isplitl [Hst']; · iexact Hst'
  isplitl [Hat']; · iexact Hat'
  isplitl [Hr']; · iexact Hr'
  iexact Htok'

/-! ## Opening the records, handing out the tokens -/

/-- The records of a device's cells opened: each under some name. -/
def opened (c : Dev nD) : sProp 𝕄 := bigSep Finset.univ fun i : Cell => iprop(∃ κ : ℕ, cellInv ER (ringRd m) κ (kcell (c, i)))

theorem open_cells (c : Dev nD) : iprop((bigSep Finset.univ fun i : Cell => (semVal (kcell (c, i)) 0 : sProp 𝕄))
      ∗ bigSep Finset.univ fun i : Cell => roundState ER (ringRd m) (kcell (c, i)) 0) ⊢ (|={Set.univ}=> opened m c : sProp 𝕄) := by
  unfold opened
  rw [← bigSep_sep']
  exact (bigSep_mono fun i _ => (Rounds.body_intro ER (ringRd m) (kcell (c, i))).trans inv_alloc).trans (bigSep_fupd _ _)

theorem core_open (c : Dev nD) : iprop(ownZero (F := F) c ∗ unscopedSems0 c ∗ Gd m c)
    ⊢ |={Set.univ}=> iprop(opened m c ∗ (bigSep Finset.univ fun i : Cell => pos (F := F) (kcell (c, i)))
      ∗ (bigSep Finset.univ fun i : Cell => mark (F := F) (kcell (c, i))) ∗ toks (F := F) c ∗ inner (F := F) c) := by
  unfold Gd
  iintro ⟨Hos, Hus, Hst, Hat, Hr, Htok⟩
  ihave Hv := (zero_cells (F := F) c) $$ [Hos Hus]
  · isplitl [Hos] <;> iassumption
  icases Hv with ⟨Hv, Hi⟩
  imod (open_cells m c) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hi

/-- The records and the marks of every cell. -/
def records (K : Dev nD × Cell → ℕ) : sProp 𝕄 :=
  iprop(bigSep (Finset.univ : Finset (Dev nD × Cell)) (fun p => cellInv ER (ringRd m) (K p) (kcell p))
    ∗ bigSep (Finset.univ : Finset (Dev nD × Cell)) (fun p => mark (F := F) (kcell p)))
instance records_persistent (K : Dev nD × Cell → ℕ) : BI.Persistent (records m K) := by unfold records; infer_instance

/-- What stays with one device: its positions, the tokens of the duties it pays, its inner counters. -/
def held (c : Dev nD) : sProp 𝕄 :=
  iprop((pos (F := F) (barAt c) ∗ (bigSep Finset.univ fun f : Flow => pos (F := F) (sendAt c f)) ∗ bigSep Finset.univ fun f : Flow => pos (F := F) (recvAt c f))
    ∗ ((tok (F := F) (barAt (nxt c)) false ∗ tok (F := F) (barAt (prv c)) true) ∗ (bigSep Finset.univ fun f : Flow => tok (F := F) (sendAt c f) false)
      ∗ bigSep Finset.univ fun f : Flow => tok (F := F) (recvAt (nb f.1 c) f) false)
    ∗ inner (F := F) c)
def G' (c : Dev nD) : sProp 𝕄 := iprop(∃ K, records m K ∗ held (F := F) c)

/-- A flow seen from its source is the flow seen from its destination. -/
def across : Dev nD × Flow ≃ Dev nD × Flow where
  toFun p := (nb p.2.1 p.1, p.2)
  invFun p := (nb (!p.2.1) p.1, p.2)
  left_inv p := Prod.ext (nb_not_nb p.2.1 p.1) rfl
  right_inv p := Prod.ext (by have h := nb_not_nb (!p.2.1) p.1; rw [Bool.not_not] at h; exact h) rfl
theorem recv_across : (bigSep Finset.univ fun c : Dev nD => bigSep Finset.univ fun f : Flow => tok (F := F) (recvAt c f) false)
    = bigSep Finset.univ fun c : Dev nD => bigSep Finset.univ fun f : Flow => tok (F := F) (recvAt (nb f.1 c) f) false := by
  rw [← bigSep_univ_prod (fun p : Dev nD × Flow => tok (F := F) (recvAt p.1 p.2) false),
    bigSep_univ_equiv across (fun p : Dev nD × Flow => tok (F := F) (recvAt p.1 p.2) false), bigSep_univ_prod]
  rfl

theorem deal : iprop((bigSep Finset.univ fun c : Dev nD => bigSep Finset.univ fun i : Cell => pos (F := F) (kcell (c, i)))
      ∗ (bigSep Finset.univ fun c : Dev nD => toks (F := F) c) ∗ bigSep Finset.univ fun c : Dev nD => inner (F := F) c)
    ⊢ bigSep Finset.univ fun c : Dev nD => held (F := F) c := by
  rw [bigSep_congr (s := Finset.univ) fun (c : Dev nD) _ => over_cells (F := F) fun i => pos (F := F) (kcell (c, i))]
  unfold toks held
  simp only [bigSep_sep']
  rw [bigSep_univ_equiv ring (fun c : Dev nD => tok (F := F) (barAt c) false), bigSep_univ_equiv ring.symm (fun c : Dev nD => tok (F := F) (barAt c) true),
    recv_across]
  iintro ⟨⟨P1, P2, P3⟩, ⟨⟨B1, B2⟩, T1, T2⟩, Hi⟩
  isplitl [P1 P2 P3]
  · isplitl [P1]; · iexact P1
    isplitl [P2]; · iexact P2
    iexact P3
  isplitl [B1 B2 T1 T2]
  · isplitl [B1 B2]
    · isplitl [B1]; · iexact B1
      iexact B2
    isplitl [T1]; · iexact T1
    iexact T2
  iexact Hi

theorem G'_intro (K : Dev nD × Cell → ℕ) (c : Dev nD) : iprop(records m K ∗ held (F := F) c) ⊢ G' m c := by
  unfold G'; iintro H; iexists K; iexact H
theorem deal_all (K : Dev nD × Cell → ℕ) : iprop(records m K ∗ bigSep Finset.univ fun c : Dev nD => held (F := F) c) ⊢ bigSep Finset.univ (G' m) :=
  BIBase.Entails.trans (sep_mono_left (BI.bigSep_of_persistent Finset.univ (records m K)))
    (by rw [← bigSep_sep']; exact bigSep_mono fun c _ => G'_intro m K c)

theorem regroup : (bigSep Finset.univ fun c : Dev nD => iprop(opened m c ∗ (bigSep Finset.univ fun i : Cell => pos (F := F) (kcell (c, i)))
      ∗ (bigSep Finset.univ fun i : Cell => mark (F := F) (kcell (c, i))) ∗ toks (F := F) c ∗ inner (F := F) c))
    ⊢ bigSep Finset.univ (G' m) := by
  rw [bigSep_sep', bigSep_sep', bigSep_sep', bigSep_sep']
  unfold opened
  rw [← bigSep_univ_prod (fun p : Dev nD × Cell => iprop(∃ κ : ℕ, cellInv ER (ringRd m) κ (kcell p))),
    ← bigSep_univ_prod (fun p : Dev nD × Cell => mark (F := F) (kcell p))]
  iintro ⟨HI, Hat, #HR, Htok, Hi⟩
  ihave HK := (BI.bigSep_exists_pi Finset.univ (fun (p : Dev nD × Cell) (κ : ℕ) => (cellInv ER (ringRd m) κ (kcell p) : sProp 𝕄))) $$ HI
  icases HK with ⟨%K, #HI⟩
  iapply (deal_all m K)
  isplitr
  · unfold records; isplitl; · iexact HI
    iexact HR
  · iapply (deal (F := F))
    isplitl [Hat]; · iexact Hat
    isplitl [Htok]; · iexact Htok
    iexact Hi

/-- The set-up of all devices at once. -/
theorem glob : (bigSep Finset.univ fun c => iprop(ownZero (F := F) c ∗ unscopedSems0 c ∗ Gd m c) : sProp 𝕄) ⊢ |={Set.univ}=> bigSep Finset.univ (G' m) :=
  ((bigSep_mono fun c _ => core_open m c).trans (bigSep_fupd _ _)).trans (BI.fupd_mono (regroup m))

/-- A device's share of the set-up, as its run takes it. -/
theorem held_cut (c : Dev nD) : held (F := F) c ⊢ iprop((pos (F := F) (barAt c) ∗ tok (F := F) (barAt (prv c)) true ∗ tok (F := F) (barAt (nxt c)) false)
    ∗ bigSep Finset.univ (sendTok (F := F) c) ∗ (bigSep Finset.univ fun f : Flow => pos (F := F) (recvAt c f)) ∗ inner (F := F) c) := by
  have hs : bigSep Finset.univ (sendTok (F := F) c) = iprop((bigSep Finset.univ fun f : Flow => tok (F := F) (sendAt c f) false)
      ∗ (bigSep Finset.univ fun f : Flow => tok (F := F) (recvAt (nb f.1 c) f) false) ∗ bigSep Finset.univ fun f : Flow => pos (F := F) (sendAt c f)) := by
    rw [← bigSep_sep', ← bigSep_sep']; rfl
  rw [hs]
  unfold held
  iintro ⟨⟨P1, P2, P3⟩, ⟨⟨B1, B2⟩, T1, T2⟩, Hi⟩
  isplitl [P1 B1 B2]
  · isplitl [P1]; · iexact P1
    isplitl [B2]; · iexact B2
    iexact B1
  isplitl [T1 T2 P2]
  · isplitl [T1]; · iexact T1
    isplitl [T2]; · iexact T2
    iexact P2
  isplitl [P3]; · iexact P3
  iexact Hi

end Cert.Ring
-- ==== Proof.Launch.lean ====
/-
# The launch and the run

The credits the launch hands out for what the devices owe, the pipeline's proof data, the body's obligation and the run of the whole program:
it ends on every device with the finished block of the result, the arguments as they were and every semaphore at zero.
-/
module

public import proofs.«01_k».proof.Proof.Deal
public import proofs.«01_k».proof.Proof.Gen.KernelIdeal.Points
public import Idealize.ShloMosaic.Lib.Pipeline.CollectiveSegs
@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]
local notation "𝕄" => MT nD τ sig Unit (Elt F) ℕ UU ℕ
variable (m : (ℓ : Loc nD τ sig) → Buf (Elt F) ℓ) (ρ : Dev nD → PrngReg)

/-! ## The launch credit -/

theorem recvAt_eq {a b : Dev nD} {f g : Flow} (h : recvAt a f = recvAt b g) : a = b ∧ f = g := by
  have h' := kcell_inj h
  exact ⟨congrArg Prod.fst h', congrArg Prod.snd (Option.some.inj (congrArg Prod.snd h'))⟩
theorem barAt_ne_recvAt (a b : Dev nD) (f : Flow) : barAt a ≠ recvAt b f := fun h => by
  have h' := congrArg Prod.snd (kcell_inj h); cases h'
theorem barAt_eq {a b : Dev nD} (h : barAt a = barAt b) : a = b := congrArg Prod.fst (kcell_inj h)

theorem owed_out (d c : Dev nD) (f : Flow) (l : List Flow) (h : f ∉ l) : owed d l (recvAt c f) () = 0 := by
  by_contra hn
  obtain ⟨f', hf, e⟩ := owed_pos (Nat.pos_of_ne_zero hn)
  exact h ((recvAt_eq e).2 ▸ hf)
theorem owed_in (d c : Dev nD) (f : Flow) (l : List Flow) (hn : l.Nodup) (h : f ∈ l) :
    owed d l (recvAt c f) () = if d = nb (!f.1) c then Nc f else 0 := by
  induction l with
  | nil => cases h
  | cons g l ih =>
    rw [owed_cons, Pi.add_apply, Finsupp.add_apply, tallyAt_apply]
    by_cases hg : f = g
    · subst hg
      rw [owed_out d c f l (List.nodup_cons.mp hn).1, Nat.zero_add]
      by_cases hd : d = nb (!f.1) c
      · subst hd
        have e := nb_not_nb (!f.1) c
        rw [Bool.not_not] at e
        rw [if_pos rfl, e, if_pos ⟨rfl, rfl⟩]
      · rw [if_neg hd, if_neg]
        rintro ⟨e, -⟩
        apply hd
        rw [(recvAt_eq e).1, nb_not_nb]
    · rw [if_neg (fun h' => hg (recvAt_eq h'.1).2), Nat.add_zero]
      exact ih (List.nodup_cons.mp hn).2 ((List.mem_cons.mp h).resolve_left hg)
theorem owed_at_bar (d c : Dev nD) (l : List Flow) : owed d l (barAt c) () = 0 := by
  by_contra hn
  obtain ⟨f', hf, e⟩ := owed_pos (Nat.pos_of_ne_zero hn)
  exact barAt_ne_recvAt _ _ _ e

theorem O₀_recv (d c : Dev nD) (f : Flow) : O₀ d (recvAt c f) () = if d = nb (!f.1) c then Nc f else 0 := by
  have hf : f ∈ sends := List.mem_toFinset.mp (sends_univ ▸ Finset.mem_univ f)
  unfold O₀ O₁
  rw [Pi.add_apply, Finsupp.add_apply, Pi.add_apply, Finsupp.add_apply, tallyAt_apply, tallyAt_apply,
    if_neg (fun h => barAt_ne_recvAt _ _ _ h.1.symm), if_neg (fun h => barAt_ne_recvAt _ _ _ h.1.symm), owed_in d c f sends sends_nodup hf]
  rfl
theorem O₀_bar (d c : Dev nD) : O₀ d (barAt c) () = (if d = prv c then 1 else 0) + (if d = nxt c then 1 else 0) := by
  unfold O₀ O₁
  rw [Pi.add_apply, Finsupp.add_apply, Pi.add_apply, Finsupp.add_apply, tallyAt_apply, tallyAt_apply, owed_at_bar, Nat.zero_add]
  congr 1
  · by_cases h : d = prv c
    · subst h; rw [nxt_prv, if_pos ⟨rfl, rfl⟩, if_pos rfl]
    · rw [if_neg (fun h' => h (by rw [barAt_eq h'.1, prv_nxt])), if_neg h]
  · by_cases h : d = nxt c
    · subst h; rw [prv_nxt, if_pos ⟨rfl, rfl⟩, if_pos rfl]
    · rw [if_neg (fun h' => h (by rw [barAt_eq h'.1, nxt_prv])), if_neg h]

theorem credit_bar (c : Dev nD) :
    tallyOn (barAt c) (launchCredit (Pipeline.owing O₀) 0 (barAt c)) = (tallyAt (barAt c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (prv c) fun _ => 1, Finset.sum_ite_eq' Finset.univ (nxt c) fun _ => 1, if_pos (Finset.mem_univ _), if_pos (Finset.mem_univ _)]
theorem credit_recv (c : Dev nD) (f : Flow) :
    tallyOn (recvAt c f) (launchCredit (Pipeline.owing O₀) 0 (recvAt c f)) = (tallyAt (recvAt c f) () (Nc f) : CellTallies nD τ sig Unit) := by
  unfold tallyAt; refine congrArg _ (Finsupp.ext fun u => ?_); cases u
  rw [Pipeline.launchCredit_owing, Finsupp.single_eq_same, Finset.sum_congr rfl fun d _ => O₀_recv d c f,
    Finset.sum_ite_eq' Finset.univ (nb (!f.1) c) fun _ => Nc f, if_pos (Finset.mem_univ _)]

/-- The semaphore of a flow's receive cell. -/
def recvSem : Flow ↪ SemLoc sig := ⟨fun f => csem (some (true, f)), fun a b h => congrArg Prod.snd (Option.some.inj (csem_inj h))⟩

theorem creds (c : Dev nD) : (Pipeline.launchCred O₀ c : sProp 𝕄)
    ⊢ iprop(cred (tallyAt (barAt c) () 2) ∗ bigSep Finset.univ fun f : Flow => cred (tallyAt (recvAt c f) () (Nc f))) := by
  unfold Pipeline.launchCred
  rw [bigSep_univ_at _ (SemLoc.reg barS)]
  have hb := credit_bar c
  rw [show ((c : Thread nD τ), SemLoc.reg barS) = barAt c from rfl, hb]
  refine sep_mono_right ?_
  have hs : Finset.univ.map recvSem ⊆ Finset.univ.erase (SemLoc.reg barS) := fun s hs => by
    obtain ⟨f, -, rfl⟩ := Finset.mem_map.mp hs
    exact Finset.mem_erase.mpr ⟨(fun h => by cases h), Finset.mem_univ _⟩
  refine BIBase.Entails.trans (bigSep_subset hs) ?_
  rw [bigSep_map]
  exact Entails.of_eq (bigSep_congr fun f _ => congrArg cred (credit_recv c f))

/-! ## The pipeline's proof data -/

theorem N_one : cfg0.N = 1 := by decide
def t₀ : Fin cfg0.N := ⟨0, by rw [N_one]; decide⟩
theorem fin_one (t : Fin cfg0.N) : t = t₀ := by
  obtain ⟨t, ht⟩ := t; have := N_one; exact Fin.ext (by simp only [t₀]; omega)

/-- What a device's run starts from besides its debts and the scoped buffers. -/
def start (c : Dev nD) : sProp 𝕄 :=
  iprop(G' m c ∗ levAts L lv ∗ (cred (tallyAt (barAt c) () 2) ∗ bigSep Finset.univ fun f : Flow => cred (tallyAt (recvAt c f) () (Nc f)))
    ∗ xP c Finset.univ (xin m c) ∗ wP c Finset.univ (win m c) ∗ ∃ g, oP (F := F) c Finset.univ g)
/-- The three arrays after the run. -/
def arrays (c : Dev nD) : sProp 𝕄 := iprop(xP c Finset.univ (xin m c) ∗ wP c Finset.univ (win m c) ∗ oP c Finset.univ (outV m c))
def before (c : Dev nD) : sProp 𝕄 := iprop(start m c ∗ scr (F := F) c)
def after (c : Dev nD) : sProp 𝕄 :=
  iprop(semVal (barAt c) 0 ∗ bigSep Finset.univ (closedS (F := F) c) ∗ bigSep Finset.univ (closedR (F := F) c) ∗ arrays m c ∗ scr (F := F) c ∗ inner (F := F) c)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aIn m c
    | ⟨1, _⟩ => bIn m c
  Φ t := match t with
    | ⟨0, _⟩ => before m c
    | ⟨_ + 1, _⟩ => after m c
  q _ := fullShare
  owed t := match t with
    | ⟨0, _⟩ => O₀ c
    | ⟨_ + 1, _⟩ => 0

theorem over_windows (Φ : Fin cfg0.W → sProp 𝕄) : bigSep Finset.univ Φ = iprop(Φ (0 : Fin 2) ∗ Φ (1 : Fin 2)) := bigSep_W0 Φ
theorem share_eq (c : Dev nD) (w : Fin cfg0.W) : (dats m ρ 0 c).share w = fullShare := by unfold Dat.share; split <;> rfl

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem one_index (i j : S1.Idx) : i = j := by
  funext a; apply Fin.ext
  have h : S1.size a = 1 := by fin_cases a; rfl
  have h1 : (i a).val < 1 := lt_of_lt_of_eq (i a).isLt h
  have h2 : (j a).val < 1 := lt_of_lt_of_eq (j a).isLt h
  omega
theorem before_a (c : Dev nD) (d : (cc0_stg0_0 : Ref sig .tc).ty.Contents (Elt F)) : (dats m ρ 0 c).before (0 : Fin 2) t₀ d = aIn m c := by

  unfold Dat.before; rw [if_pos (fetch0_0 t₀)]
  refine Eq.trans (b := (win0_0.blk (0 : Fin 1)).view.read (Elt F) (aIn m c)) rfl ?_
  funext i
  exact congrArg (aIn m c) (one_index _ _)
theorem before_b (c : Dev nD) (d : (cc0_stg1_0 : Ref sig .tc).ty.Contents (Elt F)) : (dats m ρ 0 c).before (1 : Fin 2) t₀ d = bIn m c := by

  unfold Dat.before; rw [if_pos (fetch0_1 t₀)]
  refine Eq.trans (b := (win0_1.blk (0 : Fin 1)).view.read (Elt F) (bIn m c)) rfl ?_
  funext i
  exact congrArg (bIn m c) (one_index _ _)

def pre (c : Dev nD) : sProp 𝕄 :=
  iprop(before m c ∗ (dats m ρ 0 c).owesAt () t₀.castSucc
    ∗ (∃ d, stg c cc0_stg0_0 ((dats m ρ 0 c).before (0 : Fin 2) t₀ d)) ∗ (∃ d, stg c cc0_stg1_0 ((dats m ρ 0 c).before (1 : Fin 2) t₀ d)))
def post (c : Dev nD) : sProp 𝕄 :=
  iprop(after m c ∗ (dats m ρ 0 c).owesAt () t₀.succ ∗ stg c cc0_stg0_0 (aIn m c) ∗ stg c cc0_stg1_0 (bIn m c))

/-- What the pipeline gives the body is what the run starts from. -/
theorem pre_start (c : Dev nD) : pre m ρ c ⊢ iprop(∃ K, recs m K ∗ bodyStart m c) := by
  unfold pre before start G' Dat.owesAt Pipeline.owesWithin
  iintro ⟨⟨⟨⟨%K, Hrec, Hheld⟩, Hlev, ⟨Hcb, Hcr⟩, Hx, Hw, Ho⟩, Hscr⟩, ⟨%V, %hV, HO⟩, ⟨%d0, %g0, %hg0, Ha⟩, %d1, %g1, %hg1, Hb⟩
  have ha : g0 = aIn m c := by rw [hg0]; exact before_a m ρ c d0
  have hb : g1 = bIn m c := by rw [hg1]; exact before_b m ρ c d1
  subst ha hb
  ihave Hheld' := (held_cut (F := F) c) $$ Hheld
  icases Hheld' with ⟨⟨P1, T1, T2⟩, HS, PR, Hi⟩
  iexists K
  unfold recs records bodyStart barStart aP bP
  icases Hrec with ⟨HI, HR⟩
  isplitl [HI HR Hlev]
  · isplitl [HI]; · iexact HI
    isplitl [HR]; · iexact HR
    iexact Hlev
  isplitl [HO Hcb P1 T1 T2]
  · isplitl [HO]; · iexists V; iexact HO
    isplitl [Hcb P1]
    · isplitl [Hcb]; · iexact Hcb
      iexact P1
    isplitl [T1]; · iexact T1
    iexact T2
  isplitl [HS]; · iexact HS
  isplitl [Hcr PR]
  · iapply (Entails.of_eq (BI.bigSep_sep Finset.univ (fun f : Flow => (cred (tallyAt (recvAt c f) () (Nc f)) : sProp 𝕄)) (fun f : Flow => pos (F := F) (recvAt c f))).symm)
    iapply (BIBase.Entails.rfl (P := iprop((bigSep Finset.univ fun f : Flow => (cred (tallyAt (recvAt c f) () (Nc f)) : sProp 𝕄)) ∗ bigSep Finset.univ fun f : Flow => pos (F := F) (recvAt c f))))
    isplitl [Hcr]; · iexact Hcr
    iexact PR
  isplitl [Hx]; · iexact Hx
  isplitl [Hw]; · iexact Hw
  isplitl [Ho]; · iexact Ho
  isplitl [Hscr]; · iexact Hscr
  isplitl [Hi]; · iexact Hi
  isplitl [Ha]; · iexact Ha
  iexact Hb
/-- What the run ends with is what the pipeline expects back. -/
theorem end_post (c : Dev nD) : bodyEnd m c ⊢ post m ρ c := by
  unfold bodyEnd aP bP post after arrays Ow Dat.owesAt Pipeline.owesWithin
  iintro ⟨⟨%V, HO⟩, HB, HS, HR, Hx, Hw, Ho, Hscr, Hi, Ha, Hb⟩
  isplitl [HB HS HR Hx Hw Ho Hscr Hi]
  · isplitl [HB]; · iexact HB
    isplitl [HS]; · iexact HS
    isplitl [HR]; · iexact HR
    isplitl [Hx Hw Ho]
    · isplitl [Hx]; · iexact Hx
      isplitl [Hw]; · iexact Hw
      iexact Ho
    isplitl [Hscr]; · iexact Hscr
    iexact Hi
  isplitl [HO]
  · iexists V
    isplitr; · ipureintro; exact fun _ _ => Or.inl trivial
    iexact HO
  isplitl [Ha]
  · iexists _; isplitr; · (ipureintro; rfl)
    iexact Ha
  iexists _; isplitr; · (ipureintro; rfl)
  iexact Hb

/-- The body run between the two. -/
theorem sound (c : Dev nD) : pre m ρ c ⊢ wp frame (wpE (defs₀ (F := F)) 𝒱₀ (c : Thread nD τ) none) Set.univ (bodyR (F := F)) (fun _ => post m ρ c) := by
  iintro H
  ihave H' := (pre_start m ρ c) $$ H
  icases H' with ⟨%K, H'⟩
  iapply (tr_body m K c (fun _ => post m ρ c))
  isplitl [H']; · iexact H'
  iintro H
  iapply (end_post m ρ c) $$ H

theorem body_obligation (c : Dev nD) : BodyObligation (dats (F := F) m ρ 0 c) (defs₀ (F := F)) 𝒱₀ () Set.univ := fun t => by
  rw [fin_one t]
  rw [over_windows, over_windows]
  simp only [owns_buffer]
  have h := sound m ρ c
  rw [← body_eq t₀] at h
  exact h

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (creds (F := F) c) $$ Hcr
  imodintro
  unfold start xP wP oP
  isplitl
  · isplitl [HG]; · iexact HG
    isplitl [Hlev]; · iexact Hlev
    isplitl [Hc]; · iexact Hc
    isplitl [Hx]; · iexact Hx
    isplitl [Hw]; · iexact Hw
    iexists _; iexact Ho
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scr anyP
  iintro ⟨Hs, -, Hr⟩
  isplitl [Hs]; · iexact Hs
  iexact Hr

theorem after_exit (c : Dev nD) :
    (dats m ρ 0 c).Φ (Fin.last cfg0.N) ⊢ iprop((unscopedSems0 c ∗ arrays m c) ∗ ownZero (F := F) c ∗ Pipeline.scopedRest cfg0.spec c) := by
  rw [show (dats m ρ 0 c).Φ (Fin.last cfg0.N) = after m c from rfl, scopedRest0_eq, ownZero_eq, barZero_eq]
  unfold after scr anyP
  iintro ⟨HB, HS, HR, Harr, Hscr, Hi⟩
  isplitl [HB Harr]
  · isplitl [HB]; · iexact HB
    iexact Harr
  isplitl [HS HR Hi]
  · isplitl [Hi]; · iexact Hi
    isplitl [HS]; · iexact HS
    iexact HR
  iexact Hscr

theorem waits (c : Dev nD) : (levAts L lv : sProp 𝕄) ⊢ Pipeline.cellsWaits cfgs (dats m ρ) () 0 c :=
  Pipeline.cellsWaits_intro cfgs (dats m ρ) () 0 c fun w s t => by
    have hq : lvOf (decode (SemLoc.dma ((cfg0.win w).sem s))) = 0 := by fin_cases w <;> fin_cases s <;> decide
    rcases t with ⟨_ | _, ht⟩
    · exact mayWait_start c _ hq
    · show _ ⊢ MayWait (c : Thread nD τ) _ () 0
      rw [MayWait_zero]; iintro -; iempintro

/-- What is read off the final memory of a device besides the two scales. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = (show Buf (Elt F) ((c : Thread nD τ).loc main_v1) from outV m c)

theorem seen_arrays (c : Dev nD) (s' : Phys nD τ sig (Elt F)) :
    iprop(arrays m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)
      ∧ s'.mem.mem ((c : Thread nD τ).loc main_v1) = (show Buf (Elt F) ((c : Thread nD τ).loc main_v1) from outV m c)⌝ ∗ SI s') : sProp 𝕄) := by
  unfold arrays xP wP oP
  iintro ⟨⟨Hx, Hw, Ho⟩, HSI⟩
  icombine HSI Hx gives %hx
  icombine HSI Hw gives %hw
  icombine HSI Ho gives %ho
  isplitr
  · ipureintro
    exact ⟨funext fun i => hx i (Finset.mem_univ i), funext fun i => hw i (Finset.mem_univ i), funext fun i => ho i (Finset.mem_univ i)⟩
  iexact HSI

theorem seen (c : Dev nD) (s' : Phys nD τ sig (Elt F)) :
    iprop((unscopedSems0 c ∗ arrays m c) ∗ emp ∗ SI s') ⊢ (|={Set.univ}=> iprop(⌜Seen m c s'.mem⌝ ∗ SI s') : sProp 𝕄) := by
  iintro ⟨⟨Hu, Harr⟩, -, HSI⟩
  ihave H := (seen_arrays m c s') $$ [Harr HSI]
  · isplitl [Harr] <;> iassumption
  icases H with ⟨%h, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, h⟩
  iexact HSI

/-- The final states: on every device the finished block of the result, the four arguments as they were. -/
def Done (r : PUnit × MemSt nD τ sig (Elt F)) : Prop := ∀ c : Dev nD,
  r.2.mem ((c : Thread nD τ).loc main_v1) = (show Buf (Elt F) ((c : Thread nD τ).loc main_v1) from outV m c)
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)

/-- On sixteen devices, for any float values, from any memory with counters at zero: every fair run of the program ends, with the finished
    block of the result on every device, the arguments unchanged and every semaphore at zero. -/
theorem run_main : θ_run defs (onTc (τ := τ) (main (F := F))) (s₀ m ρ) (fun r => Done m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gd m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ _ => rfl) (hpf := fun _ k => k.elim0)
    (X := start m) (Y := fun c => iprop(unscopedSems0 c ∗ arrays m c)) (Z := fun _ => iprop(emp))
    (hX := start_intro m ρ) (hin := before_intro m ρ) (hout := after_exit m ρ)
    (QY := Seen m) (hY := seen m)
    (hQ := fun r h hs => ⟨fun c => ⟨(h c).2.2.2.2.2, (h c).2.2.2.1, (h c).2.2.2.2.1,
      ((h c).1 (0 : Fin 2)).trans ((dats m ρ 0 c).arrAt_in (0 : Fin 2) rfl _), ((h c).1 (1 : Fin 2)).trans ((dats m ρ 0 c).arrAt_in (1 : Fin 2) rfl _)⟩,
      sem_eq_zero hs fun c => (h c).2.2.1⟩)

end Cert.Ring
-- ==== Proof.Value.lean ====
/- What the result is over the real numbers: every entry the product's sum over the shared axis, scaled and cut off below zero — the
   reference's value, read at the block of columns a device keeps. -/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.ValueLayout
public import Idealize.ShloMosaic.Lib.Layout

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

open scoped BigOperators

/-- One entry of the result: row `x` against column `w`, scaled, never below zero. -/
def cell (x w : Fin 4096 → EReal) (s : EReal) : EReal := max ((∑ k : Fin 4096, x k * w k) * s) 0

/-- A strip of rows multiplied with the device's columns, scaled and cut off, read at an entry. -/
theorem strip_apply {M : ℕ} (d : DotDims ⟨2, ![M, 4096]⟩ ⟨2, ![4096, 512]⟩ ⟨2, ![M, 512]⟩) (hd : d = DotDims.plain M 4096 512)
    (h₁ : (⟨3, ![1, M, 4096]⟩ : Shape).ShapeCasts ⟨2, ![M, 4096]⟩) (h₂ : (⟨2, ![M, 512]⟩ : Shape).ShapeCasts ⟨3, ![1, M, 512]⟩)
    (s : Ideal .f32) (x : FVec Ideal ⟨3, ![1, M, 4096]⟩ .fp8e4m3) (w : FVec Ideal ⟨2, ![4096, 512]⟩ .fp8e4m3) (u : Fin 1) (r : Fin M) (l : Fin 512) :
    shapeCast ⟨3, ![1, M, 512]⟩ (maximumf (mulf (matmul d none (shapeCast ⟨2, ![M, 4096]⟩ x h₁) w (constant ⟨2, ![M, 512]⟩ .f32 0x00000000#32))
        (broadcast ⟨2, ![M, 512]⟩ s)) (broadcast ⟨2, ![M, 512]⟩ (Scalar.ofBits (F := Ideal) .f32 0x00000000#32))) h₂ (ix3 u r l)
      = cell (fun k => x (ix3 (0 : Fin 1) r k)) (fun k => w (ix2 k l)) s := by
  subst hd
  rw [ValueIdx.shapeCast_ab_1ab_apply]
  have e := Ideal.matmul_plain_apply none (shapeCast ⟨2, ![M, 4096]⟩ x h₁) w (constant ⟨2, ![M, 512]⟩ .f32 0x00000000#32) r l
  show max (FloatOps.matmul (DotDims.plain M 4096 512) none (shapeCast ⟨2, ![M, 4096]⟩ x h₁) w (constant ⟨2, ![M, 512]⟩ .f32 0x00000000#32) (ix2 r l) * s)
    (Ideal.ofBits .f32 0x00000000#32) = _
  rw [e, Ideal.ofBits_zero_f32]
  show max ((Ideal.ofBits .f32 0x00000000#32 + _) * s) 0 = _
  rw [Ideal.ofBits_zero_f32, zero_add]
  unfold cell
  simp only [ValueIdx.shapeCast_1ab_ab_apply]

/-- The same for a block of 256 rows, -/
theorem pay_whole (s : Ideal .f32) (x : FVec Ideal S1x256x4096 .fp8e4m3) (w : FVec Ideal S4096x512 .fp8e4m3) (u : Fin 1) (r : Fin 256) (l : Fin 512) :
    k0_pay16 s x w (ix3 u r l) = cell (fun k => x (ix3 (0 : Fin 1) r k)) (fun k => w (ix2 k l)) s :=
  strip_apply _ rfl _ _ s x w u r l

/-- and for half a block. -/
theorem pay_half (s : Ideal .f32) (x : FVec Ideal S1x128x4096 .fp8e4m3) (w : FVec Ideal S4096x512 .fp8e4m3) (u : Fin 1) (r : Fin 128) (l : Fin 512) :
    k0_pay39 s x w (ix3 u r l) = cell (fun k => x (ix3 (0 : Fin 1) r k)) (fun k => w (ix2 k l)) s :=
  strip_apply _ rfl _ _ s x w u r l

variable (m : (ℓ : Loc nD τ sig) → Buf (Elt Ideal) ℓ)

/-- Whichever way device `c` came by the rows of device `o`, its block of results holds the entries of those rows. -/
theorem blk_apply (c o : Dev nD) (r : Fin 256) (l : Fin 512) :
    blk m c o (ix3 (0 : Fin 1) r l) = cell (fun k => xin m o (ix2 r k)) (fun k => win m c (ix2 k l)) (sc m c) := by
  unfold blk
  by_cases ho : o = org false c 8
  · rw [if_pos ho]
    unfold blkB
    by_cases h : r.val < 128
    · rw [dif_pos (show ((ix3 (0 : Fin 1) r l : S1x256x512.Idx) 1).val < 128 from h)]
      refine (pay_half _ _ _ _ _ _).trans (congrArg (fun f => cell f _ _) (funext fun k => ?_))
      exact congrArg (xin m o) (congrArg (fun z => ix2 z k) (Fin.ext (by show 128 * 0 + r.val = r.val; omega)))
    · rw [dif_neg (show ¬ ((ix3 (0 : Fin 1) r l : S1x256x512.Idx) 1).val < 128 from h)]
      refine (pay_half _ _ _ _ _ _).trans (congrArg (fun f => cell f _ _) (funext fun k => ?_))
      exact congrArg (xin m o) (congrArg (fun z => ix2 z k) (Fin.ext (by show 128 * 1 + (r.val - 128) = r.val; omega)))
  · rw [if_neg ho]
    exact pay_whole _ _ _ _ _ _

/-- The reference's result. -/
def refOut (x : FVec Ideal ⟨2, ![4096, 4096]⟩ .f32) (w : FVec Ideal ⟨2, ![4096, 8192]⟩ .f32) (a b : FVec Ideal ⟨1, ![1]⟩ .f32) :
    FVec Ideal ⟨2, ![4096, 8192]⟩ .f32 :=
  maximumf (mulf (Host.dotGeneral Cert.ReferenceIdeal.dot_S4096x4096_S4096x8192_S4096x8192_1_0_0_1_n_n none x w)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf a b))))
    (broadcastInDim Cert.ReferenceIdeal.S4096x8192 ![] Cert.ReferenceIdeal.Facts₀.bcast_S_S4096x8192 (constant Cert.ReferenceIdeal.S_ .f32 0x00000000#32))

/-- Read at an entry it is the same sum, scaled and cut off. -/
theorem refOut_apply (x : FVec Ideal ⟨2, ![4096, 4096]⟩ .f32) (w : FVec Ideal ⟨2, ![4096, 8192]⟩ .f32) (a b : FVec Ideal ⟨1, ![1]⟩ .f32)
    (r : Fin 4096) (l : Fin 8192) :
    refOut x w a b (ix2 r l) = cell (fun k => x (ix2 r k)) (fun k => w (ix2 k l)) ((a (ix1 (0 : Fin 1)) : EReal) * b (ix1 (0 : Fin 1))) := by
  have e₁ := StackMember.dotGeneral_plain_apply none x w r l
  have e₂ : broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf a b)) (ix2 r l)
        = mulf a b (ix1 (0 : Fin 1)) := by
    rw [broadcastInDim_apply _ _ _ _ (ix2 (0 : Fin 1) (0 : Fin 1)) (fun z => match z with | ⟨0, _⟩ => rfl | ⟨1, _⟩ => rfl)]
    exact broadcastInDim_apply _ _ _ _ (ix1 (0 : Fin 1)) (fun z => match z with | ⟨0, _⟩ => rfl)
  show max (Host.dotGeneral (DotDims.plain 4096 4096 8192) none x w (ix2 r l) * _) (Ideal.ofBits .f32 0x00000000#32) = _
  rw [e₁, e₂, Ideal.ofBits_zero_f32]
  rfl

/-- When the devices hold the bands of `x` and the column blocks of `w`, and both scales, device `c` ends with its block of columns of
    the reference's result. -/
theorem outV_block (x : FVec Ideal ⟨2, ![4096, 4096]⟩ .f32) (w : FVec Ideal ⟨2, ![4096, 8192]⟩ .f32) (a b : FVec Ideal ⟨1, ![1]⟩ .f32)
    (hx : ∀ o : Dev nD, xin m o = Layout.block ⟨2, ![256, 4096]⟩ ⟨2, ![4096, 4096]⟩ 0 16 o x)
    (c : Dev nD) (hw : win m c = Layout.block ⟨2, ![4096, 512]⟩ ⟨2, ![4096, 8192]⟩ 1 16 c w)
    (hs : sc m c = (a (ix1 (0 : Fin 1)) : EReal) * b (ix1 (0 : Fin 1))) :
    outV m c = Layout.block ⟨2, ![4096, 512]⟩ ⟨2, ![4096, 8192]⟩ 1 16 c (refOut x w a b) := by
  funext i
  obtain ⟨r, l, rfl⟩ : ∃ (r : Fin 4096) (l : Fin 512), i = ix2 r l := ⟨i 0, i 1, eq_ix2 i⟩
  have hl : c.val * 512 + l.val < 8192 := by have h₁ : c.val < 16 := c.isLt; have h₂ := l.isLt; omega
  have hcol : ∀ (k : Fin 4096) (h : Layout.Tiles ⟨2, ![4096, 512]⟩ ⟨2, ![4096, 8192]⟩ 1 16),
      h.idx c (ix2 k l) = ix2 k (⟨c.val * 512 + l.val, hl⟩ : Fin 8192) := fun k h => by
    funext z; match z with | ⟨0, _⟩ => rfl | ⟨1, _⟩ => rfl
  show blk m c (rowDev (ix2 r l)) (ix3 (0 : Fin 1) (⟨r.val % 256, Nat.mod_lt _ (by decide)⟩ : Fin 256) l) = _
  rw [blk_apply, Layout.block_apply, hcol, refOut_apply, hs, hw, hx]
  refine congrArg₂ (fun f g => cell f g _) (funext fun k => ?_) (funext fun k => ?_)
  · rw [Layout.block_apply]
    refine congrArg x (funext fun z => Fin.ext ?_)
    match z with
    | ⟨0, _⟩ => show r.val / 256 * 256 + r.val % 256 = r.val; omega
    | ⟨1, _⟩ => rfl
  · rw [Layout.block_apply, hcol]

end Cert.Ring
-- ==== Proof.lean ====
/- The five claims together: the kernel's frames at both kinds of float values, the reference's frame, and the value over the real numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

section
attribute [local instance] Cert.Kernel.Gen.facts Cert.KernelIdeal.Gen.facts

/-- The two printed programs have the same body table for the kernel, -/
theorem bodies_eq : Cert.Kernel.defs₀ (F := Bits) = Cert.KernelIdeal.defs₀ (F := Bits) := by
  refine congrArg (Defs.onTc (nD := Cert.KernelIdeal.nD) (τ := Cert.KernelIdeal.τ) (sig := Cert.KernelIdeal.sig) (Val := Elt Bits)
    (Λ := Cert.KernelIdeal.Λ₀)) (funext fun l => funext fun a => ?_)
  match l, a with
  | 0, (t, s) => rfl
  | ⟨_ + 1, h⟩, _ => exact absurd h (Nat.not_lt.2 (Nat.le_add_left _ _))

/-- hence the same table with the call's pipeline, -/
theorem defs_eq : Cert.Kernel.defs (F := Bits) = Cert.KernelIdeal.defs (F := Bits) :=
  congrArg (Idealize.ShloMosaic.Pipeline.defs (Cert.KernelIdeal.pcfgs (F := Bits))) bodies_eq

/-- and the same entry. -/
theorem main_eq : Cert.Kernel.main (F := Bits) = Cert.KernelIdeal.main (F := Bits) := rfl

end

/-- At the machine's own float values the kernel always ends, its arguments unchanged and every semaphore at zero. -/
theorem frame_kernel : Cert.quiescent_Kernel (hKernel := Cert.Kernel.Gen.facts) := by
  intro m ρ _
  have h : ∀ D, Cert.KernelIdeal.defs (F := Bits) = D → θ_run D (onTc (τ := Cert.KernelIdeal.τ) (Cert.KernelIdeal.main (F := Bits)))
      (Cert.Ring.s₀ m ρ) (fun r => Cert.Ring.Done m r ∧ r.2.sem = fun _ => 0) := by
    rintro _ rfl; exact Cert.Ring.run_main (F := Bits) m ρ
  exact (θ_run Cert.Kernel.defs _ _).mono (fun r h => ⟨fun c => (h.1 c).2, h.2⟩) (h Cert.Kernel.defs defs_eq.symm)

/-- So does it over the real numbers. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.Ring.run_main (F := Ideal) m ρ)

/-- The reference ends with its arguments unchanged; it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the real numbers each device ends with its block of columns of the reference's result. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨Cert.Ring.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run Cert.KernelIdeal.defs _ _).mono (fun _ h c => ⟨(h.1 c).1.trans ?_, (h.1 c).2⟩) (Cert.Ring.run_main (F := Ideal) m ρ)
    exact Cert.Ring.outV_block m _ _ _ _ (fun o => (hagree o).1) c (hagree c).2.1
      (congrArg₂ (fun a b : FVec Ideal ⟨1, ![1]⟩ .f32 => ((a (ValueIdx.ix1 (0 : Fin 1)) : EReal) * b (ValueIdx.ix1 (0 : Fin 1))))
        (hagree c).2.2.1 (hagree c).2.2.2)
  · exact (θ_run Cert.ReferenceIdeal.defs _ _).mono (fun _ h => h 0) (Cert.ReferenceIdeal.Value.run (F := Ideal) m' ρ')

/-- All the claims, with the side conditions the programs state. -/
theorem claim : Cert.Claim := ⟨Cert.Kernel.Gen.facts, Cert.KernelIdeal.Gen.facts, Cert.ReferenceIdeal.Gen.facts,
  frame_kernel, frame_kernelIdeal, frame_reference, trivial, value⟩

end Cert.Proof

end
